-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_exist_tables_finite [hPre_rows_exist_tables_finite : Cert.Pre_rows_exist_tables_finite.Facts] (m : (ℓ : Loc Cert.KernelIdeal.nD Cert.KernelIdeal.τ Cert.KernelIdeal.sig) → Buf (Elt Ideal) ℓ) : Prop :=
  ∀ c : Dev Cert.KernelIdeal.nD,
    (Cert.Pre_rows_exist_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_rows_exist_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_rows_exist_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_rows_exist_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_rows_exist_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_rows_exist_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_rows_exist_tables_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_exist_tables_finite [hPre_rows_exist_tables_finite : Cert.Pre_rows_exist_tables_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_exist_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_rows_exist_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_rows_exist_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_rows_exist_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_rows_exist_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_rows_exist_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_rows_exist_tables_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_rows_exist_tables_finite [hKernelIdeal : Cert.KernelIdeal.Facts] [hPre_rows_exist_tables_finite : Cert.Pre_rows_exist_tables_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_exist_tables_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_rows_exist_tables_finite [hReferenceIdeal : Cert.ReferenceIdeal.Facts] [hPre_rows_exist_tables_finite : Cert.Pre_rows_exist_tables_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_exist_tables_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_rows_exist_tables_finite [hKernelIdeal : Cert.KernelIdeal.Facts] [hReferenceIdeal : Cert.ReferenceIdeal.Facts] [hPre_rows_exist_tables_finite : Cert.Pre_rows_exist_tables_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_exist_tables_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_rows_exist_tables_finite : Cert.Pre_rows_exist_tables_finite.Facts),
    quiescent_Kernel (hKernel := hKernel)
    ∧ quiescent_KernelIdeal (hKernelIdeal := hKernelIdeal)
    ∧ quiescent_KernelIdeal_pre_rows_exist_tables_finite (hKernelIdeal := hKernelIdeal) (hPre_rows_exist_tables_finite := hPre_rows_exist_tables_finite)
    ∧ quiescent_ReferenceIdeal (hReferenceIdeal := hReferenceIdeal)
    ∧ quiescent_ReferenceIdeal_pre_rows_exist_tables_finite (hReferenceIdeal := hReferenceIdeal) (hPre_rows_exist_tables_finite := hPre_rows_exist_tables_finite)
    ∧ preserves_Kernel_KernelIdeal
    ∧ algebraic_KernelIdeal_ReferenceIdeal_pre_rows_exist_tables_finite (hKernelIdeal := hKernelIdeal) (hReferenceIdeal := hReferenceIdeal) (hPre_rows_exist_tables_finite := hPre_rows_exist_tables_finite)
-- ==== Pre_rows_exist_tables_finite.lean ====
abbrev S1024x50 : Shape := ⟨2, ![1024, 50]⟩
abbrev S1024 : Shape := ⟨1, ![1024]⟩
abbrev S30x768 : Shape := ⟨2, ![30, 768]⟩
abbrev S10x768 : Shape := ⟨2, ![10, 768]⟩
abbrev S512x768 : Shape := ⟨2, ![512, 768]⟩
abbrev S768 : Shape := ⟨1, ![768]⟩
abbrev S_ : Shape := ⟨0, ![]⟩
abbrev S50x768 : Shape := ⟨2, ![50, 768]⟩

class Facts : Prop where
  bcast_S_S1024x50 : S_.BroadcastsInDim S1024x50 (![] : Fin 0 → Fin S1024x50.rank)
  bcast_S_S1024 : S_.BroadcastsInDim S1024 (![] : Fin 0 → Fin S1024.rank)
  bcast_S_S30x768 : S_.BroadcastsInDim S30x768 (![] : Fin 0 → Fin S30x768.rank)
  bcast_S_S10x768 : S_.BroadcastsInDim S10x768 (![] : Fin 0 → Fin S10x768.rank)
  slices_S512x768_S50x768_0_0 : S512x768.Slices ![0, 0] S50x768
  bcast_S_S50x768 : S_.BroadcastsInDim S50x768 (![] : Fin 0 → Fin S50x768.rank)

variable [Facts]

def fn_part1 {F : FTy → Type} [FloatOps F] (main_arg4 : FVec F S10x768 .f32) (main_arg5 : FVec F S10x768 .f32) (main_arg6 : FVec F S512x768 .f32) (main_v4 : IVec S1024x50 1) (main_v9 : IVec S1024x50 1) (main_v14 : IVec S1024 1) (main_v15 : FVec F S30x768 .f32) (main_v16 : FVec F S30x768 .f32) : IVec S1024x50 1 × IVec S1024x50 1 × IVec S1024 1 × IVec S30x768 1 × IVec S10x768 1 × IVec S10x768 1 × IVec S50x768 1 :=
  let main_v17 : IVec S30x768 1 := cmpf .olt main_v15 main_v16
  let main_v18 : FVec F S10x768 .f32 := Host.absf main_arg4
  let main_cst_5 : FVec F S_ .f32 := constant S_ .f32 0x7F800000#32
  let main_v19 : FVec F S10x768 .f32 := broadcastInDim S10x768 ![] bcast_S_S10x768 main_cst_5
  let main_v20 : IVec S10x768 1 := cmpf .olt main_v18 main_v19
  let main_v21 : FVec F S10x768 .f32 := Host.absf main_arg5
  let main_cst_6 : FVec F S_ .f32 := constant S_ .f32 0x7F800000#32
  let main_v22 : FVec F S10x768 .f32 := broadcastInDim S10x768 ![] bcast_S_S10x768 main_cst_6
  let main_v23 : IVec S10x768 1 := cmpf .olt main_v21 main_v22
  let main_v24 : FVec F S50x768 .f32 := (extractStridedSlice S50x768 ![0, 0] · slices_S512x768_S50x768_0_0) main_arg6
  let main_v25 : FVec F S50x768 .f32 := Host.absf main_v24
  let main_cst_7 : FVec F S_ .f32 := constant S_ .f32 0x7F800000#32
  let main_v26 : FVec F S50x768 .f32 := broadcastInDim S50x768 ![] bcast_S_S50x768 main_cst_7
  let main_v27 : IVec S50x768 1 := cmpf .olt main_v25 main_v26
  (main_v4, main_v9, main_v14, main_v17, main_v20, main_v23, main_v27)

def fn {F : FTy → Type} [FloatOps F] (main_arg0 : IVec S1024x50 32) (main_arg1 : IVec S1024x50 32) (main_arg2 : IVec S1024 32) (main_arg3 : FVec F S30x768 .f32) (main_arg4 : FVec F S10x768 .f32) (main_arg5 : FVec F S10x768 .f32) (main_arg6 : FVec F S512x768 .f32) (main_arg7 : FVec F S768 .f32) (main_arg8 : FVec F S768 .f32) : IVec S1024x50 1 × IVec S1024x50 1 × IVec S1024 1 × IVec S30x768 1 × IVec S10x768 1 × IVec S10x768 1 × IVec S50x768 1 :=
  let main_c : IVec S_ 32 := constantI S_ 32 0#32
  let main_v0 : IVec S1024x50 32 := broadcastInDim S1024x50 ![] bcast_S_S1024x50 main_c
  let main_v1 : IVec S1024x50 1 := cmpi .sge main_arg0 main_v0
  let main_c_0 : IVec S_ 32 := constantI S_ 32 30#32
  let main_v2 : IVec S1024x50 32 := broadcastInDim S1024x50 ![] bcast_S_S1024x50 main_c_0
  let main_v3 : IVec S1024x50 1 := cmpi .slt main_arg0 main_v2
  let main_v4 : IVec S1024x50 1 := andi main_v1 main_v3
  let main_c_1 : IVec S_ 32 := constantI S_ 32 0#32
  let main_v5 : IVec S1024x50 32 := broadcastInDim S1024x50 ![] bcast_S_S1024x50 main_c_1
  let main_v6 : IVec S1024x50 1 := cmpi .sge main_arg1 main_v5
  let main_c_2 : IVec S_ 32 := constantI S_ 32 10#32
  let main_v7 : IVec S1024x50 32 := broadcastInDim S1024x50 ![] bcast_S_S1024x50 main_c_2
  let main_v8 : IVec S1024x50 1 := cmpi .slt main_arg1 main_v7
  let main_v9 : IVec S1024x50 1 := andi main_v6 main_v8
  let main_c_3 : IVec S_ 32 := constantI S_ 32 0#32
  let main_v10 : IVec S1024 32 := broadcastInDim S1024 ![] bcast_S_S1024 main_c_3
  let main_v11 : IVec S1024 1 := cmpi .sge main_arg2 main_v10
  let main_c_4 : IVec S_ 32 := constantI S_ 32 10#32
  let main_v12 : IVec S1024 32 := broadcastInDim S1024 ![] bcast_S_S1024 main_c_4
  let main_v13 : IVec S1024 1 := cmpi .slt main_arg2 main_v12
  let main_v14 : IVec S1024 1 := andi main_v11 main_v13
  let main_v15 : FVec F S30x768 .f32 := Host.absf main_arg3
  let main_cst : FVec F S_ .f32 := constant S_ .f32 0x7F800000#32
  let main_v16 : FVec F S30x768 .f32 := broadcastInDim S30x768 ![] bcast_S_S30x768 main_cst
  fn_part1 (F := F) main_arg4 main_arg5 main_arg6 main_v4 main_v9 main_v14 main_v15 main_v16
-- ==== Kernel.lean ====
abbrev S1024x50 : Shape := ⟨2, ![1024, 50]⟩
abbrev S1024 : Shape := ⟨1, ![1024]⟩
abbrev S30x768 : Shape := ⟨2, ![30, 768]⟩
abbrev S10x768 : Shape := ⟨2, ![10, 768]⟩
abbrev S512x768 : Shape := ⟨2, ![512, 768]⟩
abbrev S768 : Shape := ⟨1, ![768]⟩
abbrev S_ : Shape := ⟨0, ![]⟩
abbrev S1024x1 : Shape := ⟨2, ![1024, 1]⟩
abbrev S50x1024 : Shape := ⟨2, ![50, 1024]⟩
abbrev S50x32x32 : Shape := ⟨3, ![50, 32, 32]⟩
abbrev S32x50x32 : Shape := ⟨3, ![32, 50, 32]⟩
abbrev S32x1x1600 : Shape := ⟨3, ![32, 1, 1600]⟩
abbrev S50x768 : Shape := ⟨2, ![50, 768]⟩
abbrev S28x768 : Shape := ⟨2, ![28, 768]⟩
abbrev S128x768 : Shape := ⟨2, ![128, 768]⟩
abbrev S128 : Shape := ⟨1, ![128]⟩
abbrev S128x1 : Shape := ⟨2, ![128, 1]⟩
abbrev S128x127 : Shape := ⟨2, ![128, 127]⟩
abbrev S128x128 : Shape := ⟨2, ![128, 128]⟩
abbrev S1x768 : Shape := ⟨2, ![1, 768]⟩
abbrev S50x1024x768 : Shape := ⟨3, ![50, 1024, 768]⟩
abbrev S1024x50x768 : Shape := ⟨3, ![1024, 50, 768]⟩
abbrev S1x1x1600 : Shape := ⟨3, ![1, 1, 1600]⟩
abbrev S50x32x768 : Shape := ⟨3, ![50, 32, 768]⟩
abbrev S1x1600 : Shape := ⟨2, ![1, 1600]⟩
abbrev S128x1600 : Shape := ⟨2, ![128, 1600]⟩
abbrev S1600x768 : Shape := ⟨2, ![1600, 768]⟩
abbrev S1600x128 : Shape := ⟨2, ![1600, 128]⟩
abbrev S1600x1 : Shape := ⟨2, ![1600, 1]⟩
abbrev S1600 : Shape := ⟨1, ![1600]⟩

abbrev nBuf : Space → Nat
  | .hbm => 40
  | .vmem => 8
  | .smem => 0
  | _ => 0

abbrev bufTy : (tb : Table) → Fin (tcTables nBuf tb) → BufTy
  | .hbm, ⟨0, _⟩ => ⟨S1024x50, .i32⟩
  | .hbm, ⟨1, _⟩ => ⟨S1024x50, .i32⟩
  | .hbm, ⟨2, _⟩ => ⟨S1024, .i32⟩
  | .hbm, ⟨3, _⟩ => ⟨S30x768, .f32⟩
  | .hbm, ⟨4, _⟩ => ⟨S10x768, .f32⟩
  | .hbm, ⟨5, _⟩ => ⟨S10x768, .f32⟩
  | .hbm, ⟨6, _⟩ => ⟨S512x768, .f32⟩
  | .hbm, ⟨7, _⟩ => ⟨S768, .f32⟩
  | .hbm, ⟨8, _⟩ => ⟨S768, .f32⟩
  | .hbm, ⟨9, _⟩ => ⟨S_, .i32⟩
  | .hbm, ⟨10, _⟩ => ⟨S1024x50, .i32⟩
  | .hbm, ⟨11, _⟩ => ⟨S1024x50, .i32⟩
  | .hbm, ⟨12, _⟩ => ⟨S1024x50, .i32⟩
  | .hbm, ⟨13, _⟩ => ⟨S1024x1, .i32⟩
  | .hbm, ⟨14, _⟩ => ⟨S_, .i32⟩
  | .hbm, ⟨15, _⟩ => ⟨S1024x1, .i32⟩
  | .hbm, ⟨16, _⟩ => ⟨S1024x1, .i32⟩
  | .hbm, ⟨17, _⟩ => ⟨S1024x50, .i32⟩
  | .hbm, ⟨18, _⟩ => ⟨S1024x50, .i32⟩
  | .hbm, ⟨19, _⟩ => ⟨S50x1024, .i32⟩
  | .hbm, ⟨20, _⟩ => ⟨S50x32x32, .i32⟩
  | .hbm, ⟨21, _⟩ => ⟨S32x50x32, .i32⟩
  | .hbm, ⟨22, _⟩ => ⟨S32x1x1600, .i32⟩
  | .hbm, ⟨23, _⟩ => ⟨S50x768, .f32⟩
  | .hbm, ⟨24, _⟩ => ⟨S_, .f32⟩
  | .hbm, ⟨25, _⟩ => ⟨S28x768, .f32⟩
  | .hbm, ⟨26, _⟩ => ⟨S128x768, .f32⟩
  | .hbm, ⟨27, _⟩ => ⟨S_, .f32⟩
  | .hbm, ⟨28, _⟩ => ⟨S128, .f32⟩
  | .hbm, ⟨29, _⟩ => ⟨S128x1, .f32⟩
  | .hbm, ⟨30, _⟩ => ⟨S_, .f32⟩
  | .hbm, ⟨31, _⟩ => ⟨S128x1, .f32⟩
  | .hbm, ⟨32, _⟩ => ⟨S128x1, .f32⟩
  | .hbm, ⟨33, _⟩ => ⟨S_, .f32⟩
  | .hbm, ⟨34, _⟩ => ⟨S128x127, .f32⟩
  | .hbm, ⟨35, _⟩ => ⟨S128x128, .f32⟩
  | .hbm, ⟨36, _⟩ => ⟨S1x768, .f32⟩
  | .hbm, ⟨37, _⟩ => ⟨S1x768, .f32⟩
  | .hbm, ⟨38, _⟩ => ⟨S50x1024x768, .f32⟩
  | .hbm, ⟨39, _⟩ => ⟨S1024x50x768, .f32⟩
  | .local _ .vmem, ⟨0, _⟩ => ⟨S1x1x1600, .i32⟩
  | .local _ .vmem, ⟨1, _⟩ => ⟨S1x1x1600, .i32⟩
  | .local _ .vmem, ⟨2, _⟩ => ⟨S128x768, .f32⟩
  | .local _ .vmem, ⟨3, _⟩ => ⟨S128x128, .f32⟩
  | .local _ .vmem, ⟨4, _⟩ => ⟨S1x768, .f32⟩
  | .local _ .vmem, ⟨5, _⟩ => ⟨S1x768, .f32⟩
  | .local _ .vmem, ⟨6, _⟩ => ⟨S50x32x768, .f32⟩
  | .local _ .vmem, ⟨7, _⟩ => ⟨S50x32x768, .f32⟩
  | _, _ => ⟨S1024x50, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_c_0 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_cst : Ref sig .tc := ⟨.hbm, 24, rfl⟩
abbrev main_call0_v13 : Ref sig .tc := ⟨.hbm, 25, rfl⟩
abbrev main_call0_v14 : Ref sig .tc := ⟨.hbm, 26, rfl⟩
abbrev main_call0_cst_1 : Ref sig .tc := ⟨.hbm, 27, rfl⟩
abbrev main_call0_v15 : Ref sig .tc := ⟨.hbm, 28, rfl⟩
abbrev main_call0_v16 : Ref sig .tc := ⟨.hbm, 29, rfl⟩
abbrev main_call0_cst_2 : Ref sig .tc := ⟨.hbm, 30, rfl⟩
abbrev main_call0_v17 : Ref sig .tc := ⟨.hbm, 31, rfl⟩
abbrev main_call0_v18 : Ref sig .tc := ⟨.hbm, 32, rfl⟩
abbrev main_call0_cst_3 : Ref sig .tc := ⟨.hbm, 33, rfl⟩
abbrev main_call0_v19 : Ref sig .tc := ⟨.hbm, 34, rfl⟩
abbrev main_call0_v20 : Ref sig .tc := ⟨.hbm, 35, rfl⟩
abbrev main_call0_v21 : Ref sig .tc := ⟨.hbm, 36, rfl⟩
abbrev main_call0_v22 : Ref sig .tc := ⟨.hbm, 37, rfl⟩
abbrev main_call0_v23 : Ref sig .tc := ⟨.hbm, 38, rfl⟩
abbrev main_v0 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x1x1600 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S50x32x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S1024x50 : Shape := ⟨2, ![1024, 50]⟩
abbrev S1024 : Shape := ⟨1, ![1024]⟩
abbrev S30x768 : Shape := ⟨2, ![30, 768]⟩
abbrev S10x768 : Shape := ⟨2, ![10, 768]⟩
abbrev S512x768 : Shape := ⟨2, ![512, 768]⟩
abbrev S768 : Shape := ⟨1, ![768]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x768 : Shape := ⟨2, ![1024, 768]⟩
abbrev S1024x1x768 : Shape := ⟨3, ![1024, 1, 768]⟩
abbrev S1024x50x768 : Shape := ⟨3, ![1024, 50, 768]⟩
abbrev S1024x50x1 : Shape := ⟨3, ![1024, 50, 1]⟩
abbrev S1x1x1 : Shape := ⟨3, ![1, 1, 1]⟩
abbrev S50 : Shape := ⟨1, ![50]⟩
abbrev S50x1 : Shape := ⟨2, ![50, 1]⟩
abbrev S50x768 : Shape := ⟨2, ![50, 768]⟩
abbrev S1x50x768 : Shape := ⟨3, ![1, 50, 768]⟩
abbrev S1x1x768 : Shape := ⟨3, ![1, 1, 768]⟩

abbrev nBuf : Space → Nat
  | .hbm => 146
  | .vmem => 0
  | .smem => 0
  | _ => 0

abbrev hbmTy0_0 (i : Nat) : BufTy := match i % 128 with
  | 0 => ⟨S1024x50, .i32⟩
  | 1 => ⟨S1024x50, .i32⟩
  | 2 => ⟨S1024, .i32⟩
  | 3 => ⟨S30x768, .f32⟩
  | 4 => ⟨S10x768, .f32⟩
  | 5 => ⟨S10x768, .f32⟩
  | 6 => ⟨S512x768, .f32⟩
  | 7 => ⟨S768, .f32⟩
  | 8 => ⟨S768, .f32⟩
  | 9 => ⟨S_, .i32⟩
  | 10 => ⟨S1024, .i32⟩
  | 11 => ⟨S1024, .i1⟩
  | 12 => ⟨S_, .i32⟩
  | 13 => ⟨S1024, .i32⟩
  | 14 => ⟨S1024, .i32⟩
  | 15 => ⟨S1024, .i32⟩
  | 16 => ⟨S1024x1, .i32⟩
  | 17 => ⟨S1, .i32⟩
  | 18 => ⟨S_, .i32⟩
  | 19 => ⟨S1024x1, .i32⟩
  | 20 => ⟨S1024x1, .i1⟩
  | 21 => ⟨S1x1, .i32⟩
  | 22 => ⟨S1024x1, .i32⟩
  | 23 => ⟨S1024x1, .i1⟩
  | 24 => ⟨S1024x1, .i1⟩
  | 25 => ⟨S_, .i1⟩
  | 26 => ⟨S1024, .i1⟩
  | 27 => ⟨S1024x768, .f32⟩
  | 28 => ⟨S1024x768, .i1⟩
  | 29 => ⟨S_, .f32⟩
  | 30 => ⟨S1024x768, .f32⟩
  | 31 => ⟨S1024x768, .f32⟩
  | 32 => ⟨S1024x1x768, .f32⟩
  | 33 => ⟨S1024x50x768, .f32⟩
  | 34 => ⟨S_, .i32⟩
  | 35 => ⟨S1024x50, .i32⟩
  | 36 => ⟨S1024x50, .i1⟩
  | 37 => ⟨S1024x50, .i32⟩
  | 38 => ⟨S_, .i32⟩
  | 39 => ⟨S1024x50, .i32⟩
  | 40 => ⟨S1024x50, .i32⟩
  | 41 => ⟨S1024x50, .i32⟩
  | 42 => ⟨S_, .i32⟩
  | 43 => ⟨S1024x50, .i32⟩
  | 44 => ⟨S1024x50, .i1⟩
  | 45 => ⟨S_, .i32⟩
  | 46 => ⟨S1024x50, .i32⟩
  | 47 => ⟨S1024x50, .i32⟩
  | 48 => ⟨S1024x50, .i32⟩
  | 49 => ⟨S1024x50x1, .i32⟩
  | 50 => ⟨S1, .i32⟩
  | 51 => ⟨S_, .i32⟩
  | 52 => ⟨S1024x50x1, .i32⟩
  | 53 => ⟨S1024x50x1, .i1⟩
  | 54 => ⟨S1x1x1, .i32⟩
  | 55 => ⟨S1024x50x1, .i32⟩
  | 56 => ⟨S1024x50x1, .i1⟩
  | 57 => ⟨S1024x50x1, .i1⟩
  | 58 => ⟨S_, .i1⟩
  | 59 => ⟨S1024x50, .i1⟩
  | 60 => ⟨S1024x50x768, .f32⟩
  | 61 => ⟨S1024x50x768, .i1⟩
  | 62 => ⟨S_, .f32⟩
  | 63 => ⟨S1024x50x768, .f32⟩
  | 64 => ⟨S1024x50x768, .f32⟩
  | 65 => ⟨S_, .i32⟩
  | 66 => ⟨S1024x50, .i32⟩
  | 67 => ⟨S1024x50, .i1⟩
  | 68 => ⟨S_, .i32⟩
  | 69 => ⟨S1024x50, .i32⟩
  | 70 => ⟨S1024x50, .i32⟩
  | 71 => ⟨S1024x50, .i32⟩
  | 72 => ⟨S1024x50x1, .i32⟩
  | 73 => ⟨S1, .i32⟩
  | 74 => ⟨S_, .i32⟩
  | 75 => ⟨S1024x50x1, .i32⟩
  | 76 => ⟨S1024x50x1, .i1⟩
  | 77 => ⟨S1x1x1, .i32⟩
  | 78 => ⟨S1024x50x1, .i32⟩
  | 79 => ⟨S1024x50x1, .i1⟩
  | 80 => ⟨S1024x50x1, .i1⟩
  | 81 => ⟨S_, .i1⟩
  | 82 => ⟨S1024x50, .i1⟩
  | 83 => ⟨S1024x50x768, .f32⟩
  | 84 => ⟨S1024x50x768, .i1⟩
  | 85 => ⟨S_, .f32⟩
  | 86 => ⟨S1024x50x768, .f32⟩
  | 87 => ⟨S1024x50x768, .f32⟩
  | 88 => ⟨S1024x50x768, .f32⟩
  | 89 => ⟨S1024x50x768, .f32⟩
  | 90 => ⟨S50, .i32⟩
  | 91 => ⟨S_, .i32⟩
  | 92 => ⟨S50, .i32⟩
  | 93 => ⟨S50, .i1⟩
  | 94 => ⟨S_, .i32⟩
  | 95 => ⟨S50, .i32⟩
  | 96 => ⟨S50, .i32⟩
  | 97 => ⟨S50, .i32⟩
  | 98 => ⟨S50x1, .i32⟩
  | 99 => ⟨S1, .i32⟩
  | 100 => ⟨S_, .i32⟩
  | 101 => ⟨S50x1, .i32⟩
  | 102 => ⟨S50x1, .i1⟩
  | 103 => ⟨S1x1, .i32⟩
  | 104 => ⟨S50x1, .i32⟩
  | 105 => ⟨S50x1, .i1⟩
  | 106 => ⟨S50x1, .i1⟩
  | 107 => ⟨S_, .i1⟩
  | 108 => ⟨S50, .i1⟩
  | 109 => ⟨S50x768, .f32⟩
  | 110 => ⟨S50x768, .i1⟩
  | 111 => ⟨S_, .f32⟩
  | 112 => ⟨S50x768, .f32⟩
  | 113 => ⟨S50x768, .f32⟩
  | 114 => ⟨S1x50x768, .f32⟩
  | 115 => ⟨S1024x50x768, .f32⟩
  | 116 => ⟨S1024x50x768, .f32⟩
  | 117 => ⟨S_, .f32⟩
  | 118 => ⟨S1024x50, .f32⟩
  | 119 => ⟨S1024x50x1, .f32⟩
  | 120 => ⟨S_, .f32⟩
  | 121 => ⟨S1024x50x1, .f32⟩
  | 122 => ⟨S1024x50x1, .f32⟩
  | 123 => ⟨S1024x50x768, .f32⟩
  | 124 => ⟨S1024x50x768, .f32⟩
  | 125 => ⟨S1024x50x768, .f32⟩
  | 126 => ⟨S_, .f32⟩
  | 127 => ⟨S1024x50, .f32⟩
  | _ => ⟨S1024x50, .i32⟩

abbrev hbmTy0_1 (i : Nat) : BufTy := match i % 128 with
  | 0 => ⟨S1024x50x1, .f32⟩
  | 1 => ⟨S_, .f32⟩
  | 2 => ⟨S1024x50x1, .f32⟩
  | 3 => ⟨S1024x50x1, .f32⟩
  | 4 => ⟨S1024x50x768, .f32⟩
  | 5 => ⟨S1024x50x768, .f32⟩
  | 6 => ⟨S_, .f32⟩
  | 7 => ⟨S1024x50x1, .f32⟩
  | 8 => ⟨S1024x50x1, .f32⟩
  | 9 => ⟨S1024x50x1, .f32⟩
  | 10 => ⟨S1024x50x768, .f32⟩
  | 11 => ⟨S1024x50x768, .f32⟩
  | 12 => ⟨S1x1x768, .f32⟩
  | 13 => ⟨S1024x50x768, .f32⟩
  | 14 => ⟨S1024x50x768, .f32⟩
  | 15 => ⟨S1x1x768, .f32⟩
  | 16 => ⟨S1024x50x768, .f32⟩
  | 17 => ⟨S1024x50x768, .f32⟩
  | _ => ⟨S1024x50, .i32⟩

abbrev hbmTy (i : Nat) : BufTy := match i / 128 with
  | 0 => hbmTy0_0 i
  | 1 => hbmTy0_1 i
  | _ => ⟨S1024x50, .i32⟩

abbrev bufTy : (tb : Table) → Fin (tcTables nBuf tb) → BufTy
  | .hbm, ⟨i, _⟩ => hbmTy i
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_c : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_c_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v9 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v10 : Ref sig .tc := ⟨.hbm, 87, rfl⟩
abbrev main_v11 : Ref sig .tc := ⟨.hbm, 88, rfl⟩
abbrev main_v12 : Ref sig .tc := ⟨.hbm, 89, rfl⟩
abbrev main_v13 : Ref sig .tc := ⟨.hbm, 90, rfl⟩
abbrev main_call3_c : Ref sig .tc := ⟨.hbm, 91, rfl⟩
abbrev main_call3_v0 : Ref sig .tc := ⟨.hbm, 92, rfl⟩
abbrev main_call3_v1 : Ref sig .tc := ⟨.hbm, 93, rfl⟩
abbrev main_call3_c_0 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_c_1 : Ref sig .tc := ⟨.hbm, 99, rfl⟩
abbrev main_call3_c_2 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_c_3 : Ref sig .tc := ⟨.hbm, 107, rfl⟩
abbrev main_call3_v12 : Ref sig .tc := ⟨.hbm, 108, rfl⟩
abbrev main_call3_v13 : Ref sig .tc := ⟨.hbm, 109, rfl⟩
abbrev main_call3_v14 : Ref sig .tc := ⟨.hbm, 110, rfl⟩
abbrev main_call3_cst : Ref sig .tc := ⟨.hbm, 111, rfl⟩
abbrev main_call3_v15 : Ref sig .tc := ⟨.hbm, 112, rfl⟩
abbrev main_v14 : Ref sig .tc := ⟨.hbm, 113, rfl⟩
abbrev main_v15 : Ref sig .tc := ⟨.hbm, 114, rfl⟩
abbrev main_v16 : Ref sig .tc := ⟨.hbm, 115, rfl⟩
abbrev main_v17 : Ref sig .tc := ⟨.hbm, 116, rfl⟩
abbrev main_cst : Ref sig .tc := ⟨.hbm, 117, rfl⟩
abbrev main_v18 : Ref sig .tc := ⟨.hbm, 118, rfl⟩
abbrev main_v19 : Ref sig .tc := ⟨.hbm, 119, rfl⟩
abbrev main_cst_1 : Ref sig .tc := ⟨.hbm, 120, rfl⟩
abbrev main_v20 : Ref sig .tc := ⟨.hbm, 121, rfl⟩
abbrev main_v21 : Ref sig .tc := ⟨.hbm, 122, rfl⟩
abbrev main_v22 : Ref sig .tc := ⟨.hbm, 123, rfl⟩
abbrev main_v23 : Ref sig .tc := ⟨.hbm, 124, rfl⟩
abbrev main_v24 : Ref sig .tc := ⟨.hbm, 125, rfl⟩
abbrev main_cst_2 : Ref sig .tc := ⟨.hbm, 126, rfl⟩
abbrev main_v25 : Ref sig .tc := ⟨.hbm, 127, rfl⟩
abbrev main_v26 : Ref sig .tc := ⟨.hbm, 128, rfl⟩
abbrev main_cst_3 : Ref sig .tc := ⟨.hbm, 129, rfl⟩
abbrev main_v27 : Ref sig .tc := ⟨.hbm, 130, rfl⟩
abbrev main_v28 : Ref sig .tc := ⟨.hbm, 131, rfl⟩
abbrev main_v29 : Ref sig .tc := ⟨.hbm, 132, rfl⟩
abbrev main_v30 : Ref sig .tc := ⟨.hbm, 133, rfl⟩
abbrev main_cst_4 : Ref sig .tc := ⟨.hbm, 134, rfl⟩
abbrev main_v31 : Ref sig .tc := ⟨.hbm, 135, rfl⟩
abbrev main_v32 : Ref sig .tc := ⟨.hbm, 136, rfl⟩
abbrev main_v33 : Ref sig .tc := ⟨.hbm, 137, rfl⟩
abbrev main_v34 : Ref sig .tc := ⟨.hbm, 138, rfl⟩
abbrev main_v35 : Ref sig .tc := ⟨.hbm, 139, rfl⟩
abbrev main_v36 : Ref sig .tc := ⟨.hbm, 140, rfl⟩
abbrev main_v37 : Ref sig .tc := ⟨.hbm, 141, rfl⟩
abbrev main_v38 : Ref sig .tc := ⟨.hbm, 142, rfl⟩
abbrev main_v39 : Ref sig .tc := ⟨.hbm, 143, rfl⟩
abbrev main_v40 : Ref sig .tc := ⟨.hbm, 144, rfl⟩
abbrev main_v41 : Ref sig .tc := ⟨.hbm, 145, rfl⟩

abbrev nD : Nat := 1
abbrev τ : Topo := Topo.v7x

variable {F : FTy → Type} [FloatOps F]
-- ==== Proof.IdealFrame.lean ====
/- The frame of `KernelIdeal`: from any launch memory, `@main` terminates, leaves its nine arguments as they were and every
   counter at zero.  Stated at any float values `F`.

   `@main` is a list of host operations, one pipelined region of 32 points, and one transpose.  The region's five input
   windows are read and never written; the sixth is stored whole at every point.  The module says what each staging
   buffer holds after the body (`dats`), proves that of the body (`body_triple`), and hands it to the library's launch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations around the region -/

/-- What core `c`'s buffers hold when the region starts: the launch memory after the leading host operations. -/
abbrev entry (c : Dev nD) : Valuation τ sig (Elt F) := StableHlo.after (List.flatten [hostOps0]) (fun b => m (c, b))

/-- One buffer of it. -/
abbrev entryAt (c : Dev nD) (b : Ref sig .tc) : Buf (Elt F) ((c : Thread nD τ).loc b) := entry m c (Proc.devRef .tc b)

/-- The nine argument buffers. -/
def argRefs : List (Ref sig .tc) :=
  [main_arg0, main_arg1, main_arg2, main_arg3, main_arg4, main_arg5, main_arg6, main_arg7, main_arg8]

/-- The leading host operations allocate nothing. -/
theorem lead_fresh : (hostOps0 : List (HloOp τ sig (Elt F))).Forall fun op => op.fresh = ∅ := by
  simp only [List.Forall]; repeat' constructor

/-- Nor does the closing one. -/
theorem tail_fresh : (hostOps1 : List (HloOp τ sig (Elt F))).Forall fun op => op.fresh = ∅ := by
  simp only [List.Forall]; rfl

/-- `@main` is the leading host operations, the region, then the closing transpose. -/
theorem main_around (𝒱 : Variants) :
    Pipeline.HMainK (Ix := Unit) (Name := ℕ) (U := UR sig nD τ) (Lvl := ℕ) cfgs 0 defs₀ 𝒱 m (main (F := F)) (entryAt m)
      (fun _ => Pipeline.chain ([hostOps1].map StableHlo.seq)) :=
  Pipeline.hmain_around cfgs 0 defs₀ 𝒱 m main [hostOps0] [hostOps1] hostOps0_sub lead_fresh main_chain

/-- The closing transpose writes the result buffer alone. -/
theorem tail_writes {op : HloOp τ sig (Elt F)} (h : op ∈ (hostOps1 : List (HloOp τ sig (Elt F)))) :
    op.writes = {Proc.devRef .tc main_v0} := by
  simp only [hostOps1, List.mem_cons, List.mem_nil_iff, or_false] at h
  rw [h, StableHlo.unary_writes]

/-- No leading host operation writes an argument. -/
theorem lead_keeps {b : Ref sig .tc} (hb : b ∈ argRefs) :
    (hostOps0 : List (HloOp τ sig (Elt F))).Forall fun op => Proc.devRef .tc b ∉ op.writes := by
  simp only [argRefs, List.mem_cons, List.mem_nil_iff, or_false] at hb
  simp only [hostOps0, List.Forall, StableHlo.nullary_writes, StableHlo.unary_writes, StableHlo.binary_writes,
    StableHlo.reshape_writes, StableHlo.nary_writes, Finset.mem_singleton]
  rcases hb with rfl | rfl | rfl | rfl | rfl | rfl | rfl | rfl | rfl <;>
  · repeat' apply And.intro
    all_goals exact StableHlo.devRef_ne_of_ne (by decide)

/-- So the region finds each argument as launched. -/
theorem entry_arg (c : Dev nD) {b : Ref sig .tc} (hb : b ∈ argRefs) :
    entryAt m c b = m ((c : Thread nD τ).loc b) :=
  StableHlo.after_of_forall_not_mem (b := Proc.devRef .tc b) _ _ (by
    simpa only [List.flatten_cons, List.flatten_nil, List.append_nil] using List.forall_iff_forall_mem.mp (lead_keeps hb))

theorem arg_ne_result : ∀ b ∈ argRefs, b ≠ main_v0 := by decide

theorem arg_ne_array : ∀ b ∈ argRefs, ∀ w, Pipeline.arrRef spec0 w ≠ b := by decide

/-- And the whole program leaves each argument as launched, whatever the region does with its own arrays. -/
theorem exit_arg (D : (p : Fin _) → (c : Dev nD) → Dat τ (Elt F) Unit ℕ (UR sig nD τ) ℕ (cfgs p) c) (c : Dev nD)
    {b : Ref sig .tc} (hb : b ∈ argRefs) :
    Pipeline.afterTail₀ cfgs D 0 (entry m) [hostOps1] c b = m ((c : Thread nD τ).loc b) := by
  unfold Pipeline.afterTail₀
  rw [StableHlo.after_of_forall_not_mem (b := Proc.devRef .tc b) _ _ (fun op hop => by
      rw [tail_writes (by simpa using hop), Finset.mem_singleton]
      exact StableHlo.devRef_ne_of_ne (arg_ne_result b hb)),
    Pipeline.withArrays_of_ne _ c (entry m c) _ b (arg_ne_array b hb)]
  exact entry_arg m c hb

/-- The closing transpose touches only buffers the region accounts for. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rw [List.mem_singleton] at hops
  subst hops
  exact Pipeline.sub_ucRefs op (List.forall_iff_forall_mem.mp hostOps1_sub op hop)

theorem array_ne_result : ∀ w, Pipeline.arrRef spec0 w ≠ main_v0 := by decide

/-- And it writes none of the region's arrays. -/
theorem tail_keeps : ∀ ops ∈ ([hostOps1] : List (List (HloOp τ sig (Elt F)))), ∀ op ∈ ops,
    ∀ w, Proc.devRef .tc (Pipeline.arrRef spec0 w) ∉ op.writes := by
  intro ops hops op hop w
  rw [List.mem_singleton] at hops
  subst hops
  rw [tail_writes hop, Finset.mem_singleton]
  exact StableHlo.devRef_ne_of_ne (array_ne_result w)

/-! ## What the body computes -/

abbrev rCode : Rect S1x1x1600 := Rect.unit (s := S1x1x1600) ![0, 0, 0] S1x1x1600.size inb_S1x1x1600_S1x1x1600_0_0_0
abbrev rTable : Rect S128x768 := Rect.unit (s := S128x768) ![0, 0] S128x768.size inb_S128x768_S128x768_0_0
abbrev rMeans : Rect S128x128 := Rect.unit (s := S128x128) ![0, 0] S128x128.size inb_S128x128_S128x128_0_0
abbrev rRow : Rect S1x768 := Rect.unit (s := S1x768) ![0, 0] S1x768.size inb_S1x768_S1x768_0_0
abbrev rOut : Rect S50x32x768 := Rect.unit (s := S50x32x768) ![0, 0, 0] S50x32x768.size inb_S50x32x768_S50x32x768_0_0_0

/-- The block the body stores, from the five blocks it loads: codes, table, table means, scale and shift. -/
def stored (code : Vec F S1x1x1600 .i32) (table : Vec F S128x768 .f32) (means : Vec F S128x128 .f32)
    (scale shift : Vec F S1x768 .f32) : FVec F S50x32x768 .f32 :=
  k0_pay1 (k0_pay8 (k0_pay3 code) (k0_pay4 code) (k0_pay5 code) k0_pay6 k0_pay7 table means scale) shift

/-- The output's staging buffer after the body: its one store, which is of the whole buffer. -/
def leaves (code : Vec F S1x1x1600 .i32) (table : Vec F S128x768 .f32) (means : Vec F S128x128 .f32)
    (scale shift : Vec F S1x768 .f32) : Vec F S50x32x768 .f32 :=
  View.canon [⟨rOut, stored (View.ld code rCode) (View.ld table rTable) (View.ld means rMeans) (View.ld scale rRow)
    (View.ld shift rRow)⟩]

theorem store_covers (p : Vec F S50x32x768 .f32) (y : S50x32x768.Idx) :
    ∃ pc ∈ ([⟨rOut, p⟩] : List (View.Piece (Elt F) S50x32x768 .f32)), y ∈ pc.1.set :=
  View.cover_of_tiled [⟨rOut, p⟩] S50x32x768.size (by rfl) y

set_option maxHeartbeats 1000000 in
/-- The body on whole staging buffers: the five inputs come back as they were, and the output buffer holds `leaves` of
    them. -/
theorem body_triple (c : Dev nD) (E : Set ℕ) (i : grid0.Coords)
    (a1 : Memref sig .tc .vmem S1x1x1600 .i32) (h1 : a1.IsWhole) (a2 : Memref sig .tc .vmem S128x768 .f32) (h2 : a2.IsWhole)
    (a3 : Memref sig .tc .vmem S128x128 .f32) (h3 : a3.IsWhole) (a4 : Memref sig .tc .vmem S1x768 .f32) (h4 : a4.IsWhole)
    (a5 : Memref sig .tc .vmem S1x768 .f32) (h5 : a5.IsWhole) (a6 : Memref sig .tc .vmem S50x32x768 .f32) (h6 : a6.IsWhole)
    (x1 : Vec F S1x1x1600 .i32) (x2 : Vec F S128x768 .f32) (x3 : Vec F S128x128 .f32) (x4 : Vec F S1x768 .f32)
    (x5 : Vec F S1x768 .f32) (K : PUnit → sProp 𝕄) :
    iprop(owns (c : Thread nD τ) a1 fullShare x1 ∗ owns (c : Thread nD τ) a2 fullShare x2
        ∗ owns (c : Thread nD τ) a3 fullShare x3 ∗ owns (c : Thread nD τ) a4 fullShare x4
        ∗ owns (c : Thread nD τ) a5 fullShare x5 ∗ (∃ d, owns (c : Thread nD τ) a6 fullShare d)
        ∗ (iprop(owns (c : Thread nD τ) a1 fullShare x1 ∗ owns (c : Thread nD τ) a2 fullShare x2
            ∗ owns (c : Thread nD τ) a3 fullShare x3 ∗ owns (c : Thread nD τ) a4 fullShare x4
            ∗ owns (c : Thread nD τ) a5 fullShare x5 ∗ owns (c : Thread nD τ) a6 fullShare (leaves x1 x2 x3 x4 x5)) -∗ K ⟨⟩))
      ⊢ wp frame (wpE (defs₀ (F := F)) Variants.none c none) E (cc0__body i a1 h1 a2 h2 a3 h3 a4 h4 a5 h5 a6 h6) K := by
  simp only [cc0__body_eq_skeleton]; unfold cc0__body_skel
  simp only [k0_part1_eq_skeleton, k0_part2_eq_skeleton]
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (store_covers _)

/-! ## The region -/

/-- Window `w`'s block at point `t` of its array as the region finds it. -/
def block (c : Dev nD) (w : Fin cfg0.W) (t : Fin cfg0.N) :
    ((cfg0.win w).xblock (cfg0.grid.coords t)).Idx → Elt F (cfg0.win w).elt :=
  ((cfg0.win w).blk t).view.read (Elt F) (entryAt m c (Pipeline.arrRef spec0 w))

/-- What the region's staging buffers hold after the body at each point: an input its block, the output what the body
    leaves of the five input blocks. -/
def dats (_ : Fin 1) (c : Dev nD) : Dat τ (Elt F) Unit ℕ (UR sig nD τ) ℕ cfg0 c where
  A w := entryAt m c (Pipeline.arrRef spec0 w)
  after w t := match w with
    | ⟨0, _⟩ => block m c 0 t
    | ⟨1, _⟩ => block m c 1 t
    | ⟨2, _⟩ => block m c 2 t
    | ⟨3, _⟩ => block m c 3 t
    | ⟨4, _⟩ => block m c 4 t
    | ⟨5, _⟩ => leaves (block m c 0 t) (block m c 1 t) (block m c 2 t) (block m c 3 t) (block m c 4 t)
  Φ _ := Pipeline.ΦA spec0 c
  q _ := fullShare
  owed _ := 0

theorem dats_array (c : Dev nD) (w : Fin cfg0.W) : (dats m 0 c).A w = entryAt m c (Pipeline.arrRef spec0 w) := by
  dsimp only [dats]

/-- The output's buffer after the body at point `t`. -/
theorem after_out (c : Dev nD) (t : Fin cfg0.N) : (dats m 0 c).after 5 t =
    leaves (block m c 0 t) (block m c 1 t) (block m c 2 t) (block m c 3 t) (block m c 4 t) := by
  dsimp only [dats]

theorem after_0 (c : Dev nD) (t : Fin cfg0.N) : (dats m 0 c).after 0 t = block m c 0 t := by dsimp only [dats]
theorem after_1 (c : Dev nD) (t : Fin cfg0.N) : (dats m 0 c).after 1 t = block m c 1 t := by dsimp only [dats]
theorem after_2 (c : Dev nD) (t : Fin cfg0.N) : (dats m 0 c).after 2 t = block m c 2 t := by dsimp only [dats]
theorem after_3 (c : Dev nD) (t : Fin cfg0.N) : (dats m 0 c).after 3 t = block m c 3 t := by dsimp only [dats]
theorem after_4 (c : Dev nD) (t : Fin cfg0.N) : (dats m 0 c).after 4 t = block m c 4 t := by dsimp only [dats]

/-- A buffer the body leaves at its block holds, when the body runs, what a fetch would put there: whether or not the
    pipeline fetched at this point.  -/
theorem before_input (c : Dev nD) (w : Fin cfg0.W) (hin : (cfg0.win w).isOut = false)
    (hidle : ∀ i, cfg0.idle w i = false) (hclip : ∀ i i', (cfg0.win w).clip i = (cfg0.win w).clip i')
    (hkeep : ∀ t, (cfg0.win w).cut (cfg0.grid.coords t) ((dats m 0 c).after w t) = block m c w t)
    (t : Fin cfg0.N) (d) : (dats m 0 c).before w t d = (dats m 0 c).fetched w t d :=
  (dats m 0 c).before_in_eq_fetched w hin hidle (fun _ _ _ => hclip _ _)
    (fun t => by rw [hkeep]; unfold Dat.blockOf block; rw [dats_array]) t d

theorem before_0 (c : Dev nD) (t : Fin cfg0.N) (d) : (dats m 0 c).before 0 t d = block m c 0 t :=
  (before_input m c 0 rfl (fun _ => rfl) (fun _ _ => rfl) (fun t => after_0 m c t) t d).trans
    (by unfold Dat.fetched Dat.blockOf block; rw [dats_array]; rfl)
theorem before_1 (c : Dev nD) (t : Fin cfg0.N) (d) : (dats m 0 c).before 1 t d = block m c 1 t :=
  (before_input m c 1 rfl (fun _ => rfl) (fun _ _ => rfl) (fun t => after_1 m c t) t d).trans
    (by unfold Dat.fetched Dat.blockOf block; rw [dats_array]; rfl)
theorem before_2 (c : Dev nD) (t : Fin cfg0.N) (d) : (dats m 0 c).before 2 t d = block m c 2 t :=
  (before_input m c 2 rfl (fun _ => rfl) (fun _ _ => rfl) (fun t => after_2 m c t) t d).trans
    (by unfold Dat.fetched Dat.blockOf block; rw [dats_array]; rfl)
theorem before_3 (c : Dev nD) (t : Fin cfg0.N) (d) : (dats m 0 c).before 3 t d = block m c 3 t :=
  (before_input m c 3 rfl (fun _ => rfl) (fun _ _ => rfl) (fun t => after_3 m c t) t d).trans
    (by unfold Dat.fetched Dat.blockOf block; rw [dats_array]; rfl)
theorem before_4 (c : Dev nD) (t : Fin cfg0.N) (d) : (dats m 0 c).before 4 t d = block m c 4 t :=
  (before_input m c 4 rfl (fun _ => rfl) (fun _ _ => rfl) (fun t => after_4 m c t) t d).trans
    (by unfold Dat.fetched Dat.blockOf block; rw [dats_array]; rfl)

/-- What the body is given at point `t`. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it gives back. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point takes the one to the other. -/
theorem body_at (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4, after_0, after_1, after_2, after_3, after_4, after_out]
  rw [show (dats m 0 c).Φ t.succ = (dats m 0 c).Φ t.castSucc from rfl,
    show (dats m 0 c).owesAt () t.succ = (dats m 0 c).owesAt () t.castSucc from rfl]
  iintro ⟨HΦ, Ho, ⟨%d1, H1⟩, ⟨%d2, H2⟩, ⟨%d3, H3⟩, ⟨%d4, H4⟩, ⟨%d5, H5⟩, ⟨%d6, H6⟩⟩
  iapply (body_triple c Set.univ (grid0.coords t) _ _ _ _ _ _ _ _ _ _ _ _ (block m c 0 t) (block m c 1 t) (block m c 2 t)
    (block m c 3 t) (block m c 4 t) _)
  isplitl [H1]; · iexact H1
  isplitl [H2]; · iexact H2
  isplitl [H3]; · iexact H3
  isplitl [H4]; · iexact H4
  isplitl [H5]; · iexact H5
  isplitl [H6]; · iexists _; iexact H6
  iintro ⟨H1, H2, H3, H4, H5, H6⟩
  isplitl [HΦ]; · iexact HΦ
  isplitl [Ho]; · iexact Ho
  isplitl [H1]; · iexact H1
  isplitl [H2]; · iexact H2
  isplitl [H3]; · iexact H3
  isplitl [H4]; · iexact H4
  isplitl [H5]; · iexact H5
  iexact H6

theorem body_row (t : Fin cfg0.N) :
    defs₀ (F := F) .tc cfg0.body (cfg0.bodyArgs t (cfg0.slots t)) = bodyAt0 t := by
  unfold defs₀; rw [Defs.onTc_tc]

/-- The same as the library asks for it. -/
theorem body_ok (c : Dev nD) : BodyObligation (dats (F := F) m 0 c) (defs₀ (F := F)) Variants.none () Set.univ := fun t => by
  rw [bigSep_W0, bigSep_W0, body_row]
  exact triple_restated (body_at m c t) rfl .rfl fun _ => .rfl

/-! ## The run -/

/-- The contents of every buffer when `@main` ends: the region's arrays with every block written back, then the closing
    transpose. -/
abbrev final (c : Dev nD) (b : Ref sig .tc) : Buf (Elt F) ((c : Thread nD τ).loc b) :=
  Pipeline.afterTail₀ cfgs (dats m) 0 (entry m) [hostOps1] c b

set_option backward.isDefEq.respectTransparency.types false in
set_option maxHeartbeats 800000 in
/-- Every fair execution of `@main` terminates, with the region's arrays and every other buffer at their final contents
    and every counter at zero. -/
theorem run : θ_run defs (onTc (τ := τ) (main (F := F))) (s₀ m ρ)
    (fun r => Pipeline.FramePost cfgs (dats m) 0 (final m) r ∧ r.2.sem = fun _ => 0) :=
  Pipeline.θ_run_frame_around (Q' := _) cfgs (dats m) (0 : Fin 1) launch0 defs₀ Variants.none m ρ main
    (hbody := fun c => (body_ok m c).loose) (hshare := fun c => (dats m 0 c).share_full fun _ => rfl)
    (howed := fun _ _ => rfl) (V₀ := entry m) (opss := [hostOps1]) (hsub := tail_sub)
    (hfresh := fun ops hops op hop => by
      rw [List.mem_singleton] at hops; subst hops
      exact List.forall_iff_forall_mem.mp tail_fresh op hop)
    (hkeep := tail_keeps) (hmain := main_around m Variants.none) (hA := dats_array m) (hΦ := fun _ _ => rfl)

/-- In short: the result buffer ends at its final contents, the arguments as launched, the counters at zero. -/
theorem run_buffers : θ_run defs (onTc (τ := τ) (main (F := F))) ⟨m, fun _ => 0, ρ⟩ (fun r =>
    (∀ c : Dev nD, r.2.mem ((c.tc : Thread nD τ).loc main_v0) = final m c main_v0
      ∧ ∀ b ∈ argRefs, r.2.mem ((c.tc : Thread nD τ).loc b) = m ((c.tc : Thread nD τ).loc b))
    ∧ r.2.sem = fun _ => 0) :=
  (θ_run defs _ _).mono (fun r h => ⟨fun c =>
    ⟨(h.1 c).2 main_v0 (Pipeline.mem_restRefs_of main_v0 (by decide) (by decide)), fun b hb =>
      ((h.1 c).2 b (by
        simp only [argRefs, List.mem_cons, List.mem_nil_iff, or_false] at hb
        rcases hb with rfl | rfl | rfl | rfl | rfl | rfl | rfl | rfl | rfl <;>
          exact Pipeline.mem_restRefs_of _ (by decide) (by decide))).trans (exit_arg m (dats m) c hb)⟩, h.2⟩) (run m ρ)

end Cert.KernelIdeal.Hand

end
-- ==== Proof.Arith.lean ====
module
public import Idealize.ShloMosaic.Lib.Pointwise

/-! # The arithmetic

Facts about words, sums and extended reals that name no program. First the packed word: a token, a decoration and a charge put
into one 32-bit word and taken out again, and the row a decoration stands for. Then the sum over a table's 128 rows against the
indicator of four of them. Last the layer normalisation: the moments' form of it, from the sum of squares, equals the centred
form on finite numbers. -/

@[expose] public section

set_option maxRecDepth 16384

noncomputable section

namespace Cert.Arith

open Idealize.ShloMosaic
open scoped BigOperators

/-! ## Words -/

/-- A token, a decoration and a charge in one word: five bits, five bits, the rest. -/
abbrev packed (tok dec chg : BitVec 32) : BitVec 32 :=
  IntOp.ori (IntOp.ori tok (IntOp.shli .host dec 5#32)) (IntOp.shli .host chg 10#32)

/-- A decoration's word with the decoration five sent to zero. -/
abbrev folded (dec : BitVec 32) : BitVec 32 :=
  IntOp.subi dec (IntOp.muli 5#32 (BitVec.setWidth 32 (IntOp.cmpi .eq dec 5#32)))

/-- The row of the decorations' table a decoration stands for: its own, but row zero for the decoration five. -/
def site (d : Fin 10) : Fin 10 := if d = 5 then 0 else d

theorem folded_eq : ∀ d : Fin 10, folded (BitVec.ofNat 32 d.val) = BitVec.ofNat 32 (site d).val := by decide

/-- The low five bits of the packed word are the token. -/
theorem packed_tok : ∀ (a : Fin 30) (d c : Fin 10),
    IntOp.andi (packed (BitVec.ofNat 32 a.val) (BitVec.ofNat 32 d.val) (BitVec.ofNat 32 c.val)) 31#32 = BitVec.ofNat 32 a.val := by
  decide +kernel

/-- The next five bits are the decoration. -/
theorem packed_dec : ∀ (a : Fin 30) (d c : Fin 10),
    IntOp.andi (IntOp.shrsi .vector (packed (BitVec.ofNat 32 a.val) (BitVec.ofNat 32 d.val) (BitVec.ofNat 32 c.val)) 5#32) 31#32
      = BitVec.ofNat 32 d.val := by
  decide +kernel

/-- The bits above are the charge. -/
theorem packed_chg : ∀ (a : Fin 30) (d c : Fin 10),
    IntOp.shrsi .vector (packed (BitVec.ofNat 32 a.val) (BitVec.ofNat 32 d.val) (BitVec.ofNat 32 c.val)) 10#32
      = BitVec.ofNat 32 c.val := by
  decide +kernel

/-! ## The indicator of four rows -/

/-- The bit that says row `k` is one of the four rows a word names. -/
abbrev named (tok dec chg pos : BitVec 32) (k : Fin 128) : BitVec 1 :=
  IntOp.ori (IntOp.ori (IntOp.ori (IntOp.cmpi .eq (BitVec.ofNat 32 k.val) tok)
    (IntOp.cmpi .eq (BitVec.ofNat 32 k.val) (IntOp.addi dec 30#32)))
    (IntOp.cmpi .eq (BitVec.ofNat 32 k.val) (IntOp.addi chg 40#32)))
    (IntOp.cmpi .eq (BitVec.ofNat 32 k.val) (IntOp.addi pos 50#32))

/-- That bit as a number. -/
abbrev mark (tok dec chg pos : BitVec 32) (k : Fin 128) : EReal :=
  FloatOps.sitofp (F := Ideal) .f32 (BitVec.setWidth 32 (named tok dec chg pos k))

/-- The rows of the table a token, a decoration, a charge and a position stand for. -/
abbrev tokRow (a : Fin 30) : Fin 128 := ⟨a.val, by omega⟩
abbrev decRow (d : Fin 10) : Fin 128 := ⟨30 + d.val, by omega⟩
abbrev chgRow (c : Fin 10) : Fin 128 := ⟨40 + c.val, by omega⟩
abbrev posRow (l : Fin 50) : Fin 128 := ⟨50 + l.val, by omega⟩

/-- The row numbers' words agree exactly where the row numbers do. -/
theorem eq_row (k : Fin 128) (off r : ℕ) (h : off + r < 128) :
    IntOp.cmpi .eq (BitVec.ofNat 32 k.val) (BitVec.ofNat 32 r + BitVec.ofNat 32 off)
      = if k.val = off + r then 1#1 else 0#1 := by
  have e : BitVec.ofNat 32 r + BitVec.ofNat 32 off = BitVec.ofNat 32 (off + r) := by
    rw [← BitVec.ofNat_add, Nat.add_comm]
  rw [e]
  unfold IntOp.cmpi
  by_cases hk : k.val = off + r
  · rw [if_pos hk, hk]; simp
  · have : BitVec.ofNat 32 k.val ≠ BitVec.ofNat 32 (off + r) := fun c => hk (by
      have := congrArg BitVec.toNat c
      have := k.isLt
      simp only [BitVec.toNat_ofNat] at *
      omega)
    rw [if_neg hk, beq_eq_false_iff_ne.2 this]; rfl

/-- Four bits joined by `or`, each the bit of a proposition, are the bit of the disjunction. -/
theorem or_bits (p q r s : Prop) [Decidable p] [Decidable q] [Decidable r] [Decidable s] :
    IntOp.ori (IntOp.ori (IntOp.ori (if p then 1#1 else 0#1) (if q then 1#1 else 0#1)) (if r then 1#1 else 0#1))
      (if s then 1#1 else 0#1) = if p ∨ q ∨ r ∨ s then 1#1 else 0#1 := by
  by_cases p <;> by_cases q <;> by_cases r <;> by_cases s <;> simp [*, IntOp.ori]

/-- The mark of a row is one at the four rows and zero elsewhere. -/
theorem mark_eq (a : Fin 30) (d c : Fin 10) (l : Fin 50) (k : Fin 128) :
    mark (BitVec.ofNat 32 a.val) (BitVec.ofNat 32 d.val) (BitVec.ofNat 32 c.val) (BitVec.ofNat 32 l.val) k
      = if k = tokRow a ∨ k = decRow d ∨ k = chgRow c ∨ k = posRow l then 1 else 0 := by
  have ht := eq_row k 0 a.val (by omega)
  rw [show BitVec.ofNat 32 a.val + BitVec.ofNat 32 0 = BitVec.ofNat 32 a.val from BitVec.add_zero _] at ht
  have hd := eq_row k 30 d.val (by omega)
  have hc := eq_row k 40 c.val (by omega)
  have hl := eq_row k 50 l.val (by omega)
  have iff4 : (k = tokRow a ∨ k = decRow d ∨ k = chgRow c ∨ k = posRow l)
      ↔ (k.val = 0 + a.val ∨ k.val = 30 + d.val ∨ k.val = 40 + c.val ∨ k.val = 50 + l.val) := by
    simp only [Fin.ext_iff, Nat.zero_add]
  have bits : named (BitVec.ofNat 32 a.val) (BitVec.ofNat 32 d.val) (BitVec.ofNat 32 c.val) (BitVec.ofNat 32 l.val) k
      = if k.val = 0 + a.val ∨ k.val = 30 + d.val ∨ k.val = 40 + c.val ∨ k.val = 50 + l.val then 1#1 else 0#1 := by
    rw [← or_bits, ← ht, ← hd, ← hc, ← hl]
    rfl
  unfold mark
  rw [bits, if_congr iff4 rfl rfl]
  split
  · show (((BitVec.setWidth 32 (1#1)).toInt : ℝ) : EReal) = 1
    simp
  · show (((BitVec.setWidth 32 (0#1)).toInt : ℝ) : EReal) = 0
    simp

/-- A sum against the marks is the sum of the four rows' entries, at any extended reals: the four rows are different. -/
theorem sum_marks (a : Fin 30) (d c : Fin 10) (l : Fin 50) (f : Fin 128 → EReal) :
    ∑ k, mark (BitVec.ofNat 32 a.val) (BitVec.ofNat 32 d.val) (BitVec.ofNat 32 c.val) (BitVec.ofNat 32 l.val) k * f k
      = f (tokRow a) + f (decRow d) + f (chgRow c) + f (posRow l) := by
  have split : ∀ k, mark (BitVec.ofNat 32 a.val) (BitVec.ofNat 32 d.val) (BitVec.ofNat 32 c.val) (BitVec.ofNat 32 l.val) k * f k
      = (if k = tokRow a then f k else 0) + (if k = decRow d then f k else 0) + (if k = chgRow c then f k else 0)
        + (if k = posRow l then f k else 0) := by
    intro k
    rw [mark_eq]
    have := a.isLt; have := d.isLt; have := c.isLt; have := l.isLt
    by_cases h1 : k = tokRow a
    · have h2 : k ≠ decRow d := by simp only [h1, ne_eq, Fin.ext_iff]; omega
      have h3 : k ≠ chgRow c := by simp only [h1, ne_eq, Fin.ext_iff]; omega
      have h4 : k ≠ posRow l := by simp only [h1, ne_eq, Fin.ext_iff]; omega
      rw [if_pos (Or.inl h1), if_pos h1, if_neg h2, if_neg h3, if_neg h4]; simp
    · by_cases h2 : k = decRow d
      · have h3 : k ≠ chgRow c := by simp only [h2, ne_eq, Fin.ext_iff]; omega
        have h4 : k ≠ posRow l := by simp only [h2, ne_eq, Fin.ext_iff]; omega
        rw [if_pos (Or.inr (Or.inl h2)), if_neg h1, if_pos h2, if_neg h3, if_neg h4]; simp
      · by_cases h3 : k = chgRow c
        · have h4 : k ≠ posRow l := by simp only [h3, ne_eq, Fin.ext_iff]; omega
          rw [if_pos (Or.inr (Or.inr (Or.inl h3))), if_neg h1, if_neg h2, if_pos h3, if_neg h4]; simp
        · rw [if_neg h1, if_neg h2, if_neg h3]; by_cases h4 : k = posRow l
          · rw [if_pos (Or.inr (Or.inr (Or.inr h4))), if_pos h4]; simp
          · rw [if_neg (by simp only [h1, h2, h3, h4, or_self, not_false_eq_true]), if_neg h4]; simp
  rw [Finset.sum_congr rfl fun k _ => split k]
  simp only [Finset.sum_add_distrib, Finset.sum_ite_eq', Finset.mem_univ, if_true]

/-! ## The layer normalisation -/

/-- The pattern of 768. -/
theorem width_eq : Ideal.ofBits .f32 0x44400000#32 = ((768 : ℝ) : EReal) := by
  simp [Ideal.ofBits, Ideal.ieee, -EReal.coe_mul]; norm_num

/-- The small number added to the variance is a positive real. -/
theorem eps_pos : ∃ e : ℝ, 0 < e ∧ Ideal.ofBits .f32 0x2B8CBCCC#32 = (e : EReal) := by
  refine ⟨_, ?_, by simp only [Ideal.ofBits, Ideal.ieee]; rfl⟩
  refine mul_pos (mul_pos ?_ ?_) (by positivity)
  · rw [if_neg (by decide)]; norm_num
  · positivity

/-- A finite sum of real numbers, as extended reals, is the real sum. -/
theorem coe_sum {ι : Type*} (s : Finset ι) (f : ι → ℝ) : ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

/-- A real divided by 768. -/
theorem div_width (x : ℝ) : Ideal.div (x : EReal) (Ideal.ofBits .f32 0x44400000#32) = ((x / 768 : ℝ) : EReal) := by
  rw [width_eq, Ideal.div_coe (by norm_num), ← EReal.coe_mul]
  congr 1
  ring

/-- The variance of 768 reals, as the mean square less the squared mean and as the mean squared deviation. -/
theorem variance (x : Fin 768 → ℝ) :
    (∑ k, x k * x k) / 768 - (∑ k, x k) / 768 * ((∑ k, x k) / 768)
      = (∑ k, (x k - (∑ i, x i) / 768) * (x k - (∑ i, x i) / 768)) / 768 := by
  generalize hm : (∑ k, x k) / 768 = μ
  have hs : ∑ k, x k = 768 * μ := by rw [← hm]; ring
  have : ∑ k, (x k - μ) * (x k - μ) = ∑ k, x k * x k - 2 * μ * ∑ k, x k + 768 * (μ * μ) := by
    rw [Finset.mul_sum, ← Finset.sum_sub_distrib]
    have : (768 : ℝ) * (μ * μ) = ∑ _k : Fin 768, μ * μ := by simp
    rw [this, ← Finset.sum_add_distrib]
    exact Finset.sum_congr rfl fun k _ => by ring
  rw [this, hs]
  ring

/-- The normalisation in the moments' form: from the row `X`, its mean `M` and its mean square. -/
abbrev byMoments (X : Fin 768 → EReal) (M : EReal) (scale shift : EReal) (h : Fin 768) : EReal :=
  (X h * Ideal.rsqrt (Ideal.div (∑ k, X k * X k) (Ideal.ofBits .f32 0x44400000#32) - M * M + Ideal.ofBits .f32 0x2B8CBCCC#32)
    - M * Ideal.rsqrt (Ideal.div (∑ k, X k * X k) (Ideal.ofBits .f32 0x44400000#32) - M * M + Ideal.ofBits .f32 0x2B8CBCCC#32))
    * scale + shift

/-- The mean of a row. -/
abbrev mean (X : Fin 768 → EReal) : EReal := Ideal.div (∑ k, X k) (Ideal.ofBits .f32 0x44400000#32)

/-- The normalisation in the centred form: the deviation over the root of the mean squared deviation. -/
abbrev centred (X : Fin 768 → EReal) (scale shift : EReal) (h : Fin 768) : EReal :=
  Ideal.div (X h - mean X)
    (Ideal.sqrt (Ideal.div (∑ k, (X k - mean X) * (X k - mean X)) (Ideal.ofBits .f32 0x44400000#32)
      + Ideal.ofBits .f32 0x2B8CBCCC#32)) * scale + shift

/-- On finite rows the two forms agree, at any scale and shift. -/
theorem moments_eq_centred (x : Fin 768 → ℝ) (scale shift : EReal) (h : Fin 768) :
    byMoments (fun k => (x k : EReal)) (((∑ k, x k) / 768 : ℝ) : EReal) scale shift h
      = centred (fun k => (x k : EReal)) scale shift h := by
  obtain ⟨e, he, hE⟩ := eps_pos
  have hmean : mean (fun k => (x k : EReal)) = (((∑ k, x k) / 768 : ℝ) : EReal) := by
    rw [mean, coe_sum, div_width]
  unfold byMoments centred
  rw [hmean, hE]
  simp only [← EReal.coe_mul, ← EReal.coe_sub, coe_sum, div_width, ← EReal.coe_add]
  rw [variance x]
  set v : ℝ := (∑ k, (x k - (∑ i, x i) / 768) * (x k - (∑ i, x i) / 768)) / 768 with hv
  have hpos : 0 < v + e := by
    have : 0 ≤ v := div_nonneg (Finset.sum_nonneg fun k _ => mul_self_nonneg _) (by norm_num)
    linarith
  rw [Ideal.rsqrt_coe, if_neg (not_lt.2 hpos.le), if_neg hpos.ne', Ideal.sqrt_coe, if_neg (not_lt.2 hpos.le),
    Ideal.div_coe (Real.sqrt_pos.2 hpos).ne']
  simp only [← EReal.coe_mul, ← EReal.coe_sub]
  congr 3
  ring

end Cert.Arith
end
end
-- ==== Proof.Block.lean ====
module
public import proofs.«01_k».proof.Proof.IdealFrame
public import proofs.«01_k».proof.Proof.Arith

/-! # What one step computes

A step's block is fifty positions of thirty-two sequences. Read at a position `l`, a sequence `b` and a feature `h`, it is the
layer normalisation, in the moments' form, of the sum of the four table rows the packed word at `32 l + b` names. -/

@[expose] public section

set_option maxRecDepth 16384

noncomputable section

namespace Cert.KernelIdeal.Hand

open Idealize.ShloMosaic Cert.KernelIdeal Cert.KernelIdeal.Gen Cert.Arith
open scoped BigOperators

/-- A word's column in a step's row of words: position `l` of sequence `b`. -/
abbrev column (l : Fin 50) (b : Fin 32) : Fin 1600 := ⟨l.val * 32 + b.val, by omega⟩

/-- The column divided by thirty-two, as the program's rounding division writes it on the words, is the position. -/
theorem position_word : ∀ j : Fin 1600, (k0_pay6 : IVec S1x1600 32) (ix2 0 j) = BitVec.ofNat 32 (j.val / 32) := by
  have words : ∀ j : Fin 1600,
      Scalar.select (IntOp.andi (IntOp.cmpi .ne
          (IntOp.subi (BitVec.setWidth 32 (IntOp.cmpi .sgt (BitVec.ofNat 32 j.val) 0#32))
            (BitVec.setWidth 32 (IntOp.cmpi .slt (BitVec.ofNat 32 j.val) 0#32)))
          (Scalar.subi (Scalar.extui (Scalar.cmpi .sgt 32#32 0#32)) (Scalar.extui (Scalar.cmpi .slt 32#32 0#32))))
        (IntOp.cmpi .ne (IntOp.remsi .vector (BitVec.ofNat 32 j.val) 32#32) 0#32))
        (IntOp.subi (IntOp.divsi .vector (BitVec.ofNat 32 j.val) 32#32) 1#32)
        (IntOp.divsi .vector (BitVec.ofNat 32 j.val) 32#32) = BitVec.ofNat 32 (j.val / 32) := by decide +kernel
  intro j
  rw [← words j]
  pointwise [k0_pay6]

/-- The token's word at a column: the low five bits of the packed word. -/
theorem token_word (code : Vec Ideal S1x1x1600 .i32) (j : Fin 1600) :
    k0_pay3 code (ix2 0 j) = IntOp.andi (code (ix3 0 0 j)) 31#32 := by
  pointwise [k0_pay2, k0_pay3]

/-- The decoration's word at a column: the next five bits, five sent to zero. -/
theorem decoration_word (code : Vec Ideal S1x1x1600 .i32) (j : Fin 1600) :
    k0_pay5 code (ix2 0 j) = folded (IntOp.andi (IntOp.shrsi .vector (code (ix3 0 0 j)) 5#32) 31#32) := by
  pointwise [k0_pay2, k0_pay5]

/-- The charge's word at a column: the bits above. -/
theorem charge_word (code : Vec Ideal S1x1x1600 .i32) (j : Fin 1600) :
    k0_pay4 code (ix2 0 j) = IntOp.shrsi .vector (code (ix3 0 0 j)) 10#32 := by
  pointwise [k0_pay2, k0_pay4]

/-- The block at an index, with the sums over the table's rows still against the marks. -/
theorem stored_marks (code : Vec Ideal S1x1x1600 .i32) (table : Vec Ideal S128x768 .f32) (means : Vec Ideal S128x128 .f32)
    (scale shift : Vec Ideal S1x768 .f32) (l : Fin 50) (b : Fin 32) (h : Fin 768) :
    stored code table means scale shift (ix3 l b h)
      = byMoments
          (fun k => ∑ r, mark (k0_pay3 code (ix2 0 (column l b))) (k0_pay5 code (ix2 0 (column l b)))
            (k0_pay4 code (ix2 0 (column l b))) (k0_pay6 (ix2 0 (column l b))) r * table (ix2 r k))
          (∑ r, mark (k0_pay3 code (ix2 0 (column l b))) (k0_pay5 code (ix2 0 (column l b)))
            (k0_pay4 code (ix2 0 (column l b))) (k0_pay6 (ix2 0 (column l b))) r * means (ix2 r 0))
          (scale (ix2 0 h)) (shift (ix2 0 h)) h := by
  pointwise [stored, k0_pay1, k0_pay7, k0_pay8]

/-- The block at an index where the packed word holds the token `a`, the decoration `d` and the charge `c`. -/
theorem stored_at (code : Vec Ideal S1x1x1600 .i32) (table : Vec Ideal S128x768 .f32) (means : Vec Ideal S128x128 .f32)
    (scale shift : Vec Ideal S1x768 .f32) (l : Fin 50) (b : Fin 32) (h : Fin 768) (a : Fin 30) (d c : Fin 10)
    (word : code (ix3 0 0 (column l b))
      = packed (BitVec.ofNat 32 a.val) (BitVec.ofNat 32 d.val) (BitVec.ofNat 32 c.val)) :
    stored code table means scale shift (ix3 l b h)
      = byMoments
          (fun k => table (ix2 (tokRow a) k) + table (ix2 (decRow (site d)) k) + table (ix2 (chgRow c) k)
            + table (ix2 (posRow l) k))
          (means (ix2 (tokRow a) 0) + means (ix2 (decRow (site d)) 0) + means (ix2 (chgRow c) 0) + means (ix2 (posRow l) 0))
          (scale (ix2 0 h)) (shift (ix2 0 h)) h := by
  have at_l : (column l b).val / 32 = l.val := by
    show (l.val * 32 + b.val) / 32 = l.val
    omega
  rw [stored_marks, token_word, decoration_word, charge_word, position_word, word, packed_tok, packed_dec, packed_chg,
    folded_eq, at_l]
  simp only [sum_marks]

end Cert.KernelIdeal.Hand
end
end
-- ==== Proof.Entry.lean ====
module
public import proofs.«01_k».proof.Proof.Block

/-! # What the region is given

The host operations before the region prepare five arrays from the nine arguments: the packed words, laid out so that a step's
fifty positions of thirty-two sequences are one row; one table of 128 rows that holds the four tables one after another; the
mean of each of its rows; and the scale and the shift as rows. Here each is named as a value of the arguments and read at an
index. -/

@[expose] public section

set_option maxRecDepth 16384

noncomputable section

namespace Cert.KernelIdeal.Hand

open Idealize.ShloMosaic Idealize.ShloMosaic.TcCoe Cert.KernelIdeal Cert.KernelIdeal.Gen Cert.Arith
open scoped BigOperators

/-- The packed words in the region's layout. -/
def codes (tok dec : IVec S1024x50 32) (chg : IVec S1024 32) : IVec S32x1x1600 32 :=
  shapeCast S32x1x1600 (transpose S32x50x32 [1, 0, 2] (shapeCast S50x32x32 (transpose S50x1024 [1, 0]
    (ori (ori tok (Host.shli dec (broadcastInDim S1024x50 ![] bcast_S_S1024x50 (constantI S_ 32 5#32))))
      (broadcastInDim S1024x50 ![0, 1] bcast_S1024x1_S1024x50_0_1
        (Host.shli (broadcastInDim S1024x1 ![0] bcast_S1024_S1024x1_0 chg)
          (broadcastInDim S1024x1 ![] bcast_S_S1024x1 (constantI S_ 32 10#32)))))
    transposes_S1024x50_S50x1024_1_0) shapeCasts_S50x1024_S50x32x32) transposes_S50x32x32_S32x50x32_1_0_2)
    shapeCasts_S32x50x32_S32x1x1600

/-- The four tables one after another, the last cut to fifty rows, and 28 rows of zeros. -/
def rows (tokT : FVec Ideal S30x768 .f32) (chgT decT : FVec Ideal S10x768 .f32) (posT : FVec Ideal S512x768 .f32) :
    FVec Ideal S128x768 .f32 :=
  concatenate S128x768 0 [⟨S30x768, tokT⟩, ⟨S10x768, decT⟩, ⟨S10x768, chgT⟩,
    ⟨S50x768, extractStridedSlice S50x768 ![0, 0] posT slices_S512x768_S50x768_0_0⟩,
    ⟨S28x768, broadcastInDim S28x768 ![] bcast_S_S28x768 (constant S_ .f32 0x00000000#32)⟩]
    concatenates_S30x768_S10x768_S10x768_S50x768_S28x768_S128x768_d0

/-- The means of a table's rows, in the first of 128 columns. -/
def rowMeans (table : FVec Ideal S128x768 .f32) : FVec Ideal S128x128 .f32 :=
  concatenate S128x128 1 [⟨S128x1, Host.divf (broadcastInDim S128x1 ![0] bcast_S128_S128x1_0
      (Host.reduceAdd table (constant S_ .f32 0x00000000#32) reducesTo_S128x768_S128_d1 h_S_))
      (broadcastInDim S128x1 ![] bcast_S_S128x1 (constant S_ .f32 0x44400000#32))⟩,
    ⟨S128x127, broadcastInDim S128x127 ![] bcast_S_S128x127 (constant S_ .f32 0x00000000#32)⟩]
    concatenates_S128x1_S128x127_S128x128_d1

/-- A vector of 768 numbers as a row. -/
def asRow (x : FVec Ideal S768 .f32) : FVec Ideal S1x768 .f32 := shapeCast S1x768 x shapeCasts_S768_S1x768

variable (m : (ℓ : Loc nD τ sig) → Buf (Elt Ideal) ℓ) (c : Dev nD)

/-- The region's first array holds the packed words. -/
theorem entry_codes : entryAt m c main_call0_v11
    = codes (m ((c : Thread nD τ).loc main_arg0)) (m ((c : Thread nD τ).loc main_arg1)) (m ((c : Thread nD τ).loc main_arg2)) := by
  show StableHlo.after hostOps0 _ _ = _
  unfold_abbrev_sides
  after_results
  rfl

/-- The second holds the table. -/
theorem entry_rows : entryAt m c main_call0_v14
    = rows (m ((c : Thread nD τ).loc main_arg3)) (m ((c : Thread nD τ).loc main_arg4)) (m ((c : Thread nD τ).loc main_arg5))
        (m ((c : Thread nD τ).loc main_arg6)) := by
  show StableHlo.after hostOps0 _ _ = _
  unfold_abbrev_sides
  after_results
  rfl

/-- The third holds the means of the table's rows. -/
theorem entry_means : entryAt m c main_call0_v20
    = rowMeans (rows (m ((c : Thread nD τ).loc main_arg3)) (m ((c : Thread nD τ).loc main_arg4))
        (m ((c : Thread nD τ).loc main_arg5)) (m ((c : Thread nD τ).loc main_arg6))) := by
  show StableHlo.after hostOps0 _ _ = _
  unfold_abbrev_sides
  after_results
  rfl

/-- The fourth holds the scale. -/
theorem entry_scale : entryAt m c main_call0_v21 = asRow (m ((c : Thread nD τ).loc main_arg7)) := by
  show StableHlo.after hostOps0 _ _ = _
  unfold_abbrev_sides
  after_results
  rfl

/-- The fifth holds the shift. -/
theorem entry_shift : entryAt m c main_call0_v22 = asRow (m ((c : Thread nD τ).loc main_arg8)) := by
  show StableHlo.after hostOps0 _ _ = _
  unfold_abbrev_sides
  after_results
  rfl

/-! ## Read at an index -/

/-- The sequence a step's row `b` is. -/
abbrev seqOf (t b : Fin 32) : Fin 1024 := ⟨t.val * 32 + b.val, by omega⟩

/-- The packed word of position `l` of the step's sequence `b` packs that position's token and decoration and that sequence's
charge. -/
theorem codes_at (tok dec : IVec S1024x50 32) (chg : IVec S1024 32) (t b : Fin 32) (l : Fin 50) :
    codes tok dec chg (ix3 t 0 (column l b))
      = packed (tok (ix2 (seqOf t b) l)) (dec (ix2 (seqOf t b) l)) (chg (ix1 (seqOf t b))) := by
  have hn : ∀ h, (⟨t.val * 32 + (l.val * 32 + b.val) % 32, h⟩ : Fin 1024) = seqOf t b := fun _ => Fin.ext (by
    show t.val * 32 + (l.val * 32 + b.val) % 32 = t.val * 32 + b.val
    omega)
  have hl : ∀ h, (⟨(l.val * 32 + b.val) / 32, h⟩ : Fin 50) = l := fun _ => Fin.ext (by
    show (l.val * 32 + b.val) / 32 = l.val
    omega)
  pointwise [codes]
  simp only [hn, hl]

variable (tokT : FVec Ideal S30x768 .f32) (chgT decT : FVec Ideal S10x768 .f32) (posT : FVec Ideal S512x768 .f32)

theorem rows_tok (a : Fin 30) (k : Fin 768) : rows tokT chgT decT posT (ix2 (tokRow a) k) = tokT (ix2 a k) := by
  pointwise [rows]

theorem rows_dec (d : Fin 10) (k : Fin 768) : rows tokT chgT decT posT (ix2 (decRow d) k) = decT (ix2 d k) := by
  pointwise [rows]

theorem rows_chg (d : Fin 10) (k : Fin 768) : rows tokT chgT decT posT (ix2 (chgRow d) k) = chgT (ix2 d k) := by
  pointwise [rows]
  rw [dif_neg (by omega), dif_neg (by omega), dif_pos (by omega)]
  exact congrArg (fun i => chgT (ix2 i k)) (Fin.ext (by show 40 + d.val - 30 - 10 = d.val; omega))

theorem rows_pos (l : Fin 50) (k : Fin 768) :
    rows tokT chgT decT posT (ix2 (posRow l) k) = posT (ix2 ⟨l.val, by omega⟩ k) := by
  pointwise [rows]
  rw [dif_neg (by omega), dif_neg (by omega), dif_neg (by omega), dif_pos (by omega)]
  exact congrArg (fun i => posT (ix2 i k)) (Fin.ext (by show 50 + l.val - 30 - 10 - 10 = l.val; omega))

/-- The first column of the means holds each row's mean. -/
theorem rowMeans_at (table : FVec Ideal S128x768 .f32) (r : Fin 128) :
    rowMeans table (ix2 r 0) = mean (fun k => table (ix2 r k)) := by
  pointwise [rowMeans]

theorem asRow_at (x : FVec Ideal S768 .f32) (h : Fin 768) : asRow x (ix2 0 h) = x (ix1 h) := by
  pointwise [asRow]

end Cert.KernelIdeal.Hand
end
end
-- ==== Proof.Array.lean ====
module
public import proofs.«01_k».proof.Proof.Entry
public import Idealize.ShloMosaic.Lib.Pipeline.Value
public import Idealize.ShloMosaic.Lib.Pipeline.ValueKit

/-! # What the result holds

The region's output array is made of the steps' blocks, and the closing transpose puts the sequence before the position. So the
result at a sequence, a position and a feature is what the sequence's step stored there; and that is the layer normalisation of
the four table rows the sequence's arguments name. -/

@[expose] public section

set_option maxRecDepth 16384

noncomputable section

namespace Cert.KernelIdeal.Hand

open Idealize.ShloMosaic Idealize.ShloMosaic.TcCoe Cert.KernelIdeal Cert.KernelIdeal.Gen Cert.Arith
open Idealize.ShloMosaic.Pipeline (Dat)
open scoped BigOperators

variable (m : (ℓ : Loc nD τ sig) → Buf (Elt Ideal) ℓ) (c : Dev nD)

/-! ## The index maps -/

/-- The words' block at a step is the step's row. -/
theorem index_code : ∀ t : Fin cfg0.N, (cfg0.win 0).index t = ![t.val, 0, 0] :=
  (by decide +kernel : ∀ t : Fin grid0.N, win0_0.index t = ![t.val, 0, 0])

/-- The other four inputs are taken whole at every step. -/
theorem index_table : ∀ t : Fin cfg0.N, (cfg0.win 1).index t = ![0, 0] :=
  (by decide +kernel : ∀ t : Fin grid0.N, win0_1.index t = ![0, 0])
theorem index_means : ∀ t : Fin cfg0.N, (cfg0.win 2).index t = ![0, 0] :=
  (by decide +kernel : ∀ t : Fin grid0.N, win0_2.index t = ![0, 0])
theorem index_scale : ∀ t : Fin cfg0.N, (cfg0.win 3).index t = ![0, 0] :=
  (by decide +kernel : ∀ t : Fin grid0.N, win0_3.index t = ![0, 0])
theorem index_shift : ∀ t : Fin cfg0.N, (cfg0.win 4).index t = ![0, 0] :=
  (by decide +kernel : ∀ t : Fin grid0.N, win0_4.index t = ![0, 0])

/-- The output's block at a step is the step's thirty-two sequences. -/
theorem index_out : ∀ t : Fin cfg0.N, (cfg0.win 5).index t = ![0, t.val, 0] :=
  (by decide +kernel : ∀ t : Fin grid0.N, win0_5.index t = ![0, t.val, 0])

/-- Every step writes its block back. -/
theorem flush_out : ∀ t : Fin cfg0.N, (cfg0.win 5).flush t = true :=
  (by decide +kernel : ∀ t : Fin grid0.N, win0_5.flush t = true)

/-- Two steps' blocks share no place of the output array. -/
theorem disjoint_out : ∀ t t' : Fin cfg0.N, (cfg0.win 5).flush t = true → (cfg0.win 5).flush t' = true → t ≠ t' →
    Disjoint ((cfg0.win 5).blk t).view.set ((cfg0.win 5).blk t').view.set :=
  fun t t' _ _ ne => (cfg0.win 5).disjoint_blk fun h => ne (Fin.ext (by
    rw [index_out, index_out] at h
    exact congrFun h 1))

/-! ## The blocks -/

theorem grid_32 : cfg0.N = 32 := by decide

/-- A step as a number below thirty-two. -/
abbrev step (t : Fin 32) : Fin cfg0.N := Fin.cast grid_32.symm t

/-- A step's words are the step's row of the packed words. -/
theorem block_code (t : Fin 32) (j : Fin 1600) :
    block m c 0 (step t) (ix3 0 0 j) = entryAt m c main_call0_v11 (ix3 t 0 j) := by
  unfold block
  show entryAt m c main_call0_v11 _ = _
  congr 1
  funext k
  refine Fin.ext ?_
  blk_simp [show win0_0.index (step t) = _ from index_code (step t)]
  match k with
  | ⟨0, _⟩ => show t.val * 1 + 0 = t.val; omega
  | ⟨1, _⟩ => rfl
  | ⟨2, _⟩ => show 0 * 1600 + j.val = j.val; omega

theorem at_origin (size : Fin 2 → ℕ) (k : Fin 2) (y : ℕ) : (![0, 0] : Fin 2 → ℕ) k * size k + y = y := by
  rw [show (![0, 0] : Fin 2 → ℕ) = fun _ => 0 by decide]
  show 0 * size k + y = y
  omega

theorem block_table (t : Fin 32) : block m c 1 (step t) = entryAt m c main_call0_v14 := by
  funext y
  unfold block
  show entryAt m c main_call0_v14 _ = _
  refine congrArg _ (funext fun k => Fin.ext ?_)
  blk_simp [show win0_1.index (step t) = _ from index_table (step t)]
  exact at_origin _ k _

theorem block_means (t : Fin 32) : block m c 2 (step t) = entryAt m c main_call0_v20 := by
  funext y
  unfold block
  show entryAt m c main_call0_v20 _ = _
  refine congrArg _ (funext fun k => Fin.ext ?_)
  blk_simp [show win0_2.index (step t) = _ from index_means (step t)]
  exact at_origin _ k _

theorem block_scale (t : Fin 32) : block m c 3 (step t) = entryAt m c main_call0_v21 := by
  funext y
  unfold block
  show entryAt m c main_call0_v21 _ = _
  refine congrArg _ (funext fun k => Fin.ext ?_)
  blk_simp [show win0_3.index (step t) = _ from index_scale (step t)]
  exact at_origin _ k _

theorem block_shift (t : Fin 32) : block m c 4 (step t) = entryAt m c main_call0_v22 := by
  funext y
  unfold block
  show entryAt m c main_call0_v22 _ = _
  refine congrArg _ (funext fun k => Fin.ext ?_)
  blk_simp [show win0_4.index (step t) = _ from index_shift (step t)]
  exact at_origin _ k _

theorem at2 : (![0, 0] : Fin 2 → ℕ) = fun _ => 0 := by decide
theorem at3 : (![0, 0, 0] : Fin 3 → ℕ) = fun _ => 0 := by decide

theorem stored_whole (code : Vec Ideal S1x1x1600 .i32) (table : Vec Ideal S128x768 .f32) (means : Vec Ideal S128x128 .f32)
    (scale shift : Vec Ideal S1x768 .f32) : leaves code table means scale shift = stored code table means scale shift := by
  unfold leaves
  rw [View.canon_unit_zero at3, View.ld_unit_zero at3, View.ld_unit_zero at2, View.ld_unit_zero at2, View.ld_unit_zero at2,
    View.ld_unit_zero at2]

theorem array_at (t b : Fin 32) (l : Fin 50) (h : Fin 768) :
    (dats m 0 c).arrAt 5 cfg0.N (ix3 l (seqOf t b) h)
      = stored (block m c 0 (step t)) (block m c 1 (step t)) (block m c 2 (step t)) (block m c 3 (step t))
          (block m c 4 (step t)) (ix3 l b h) := by
  have e := congrFun ((dats m 0 c).read_blk_arrAt_eq_flushed 5 disjoint_out cfg0.N (step t) (step t).isLt (flush_out _))
    (ix3 l b h)
  have place : ((cfg0.win 5).blk (step t)).view.emb (ix3 l b h) = ix3 l (seqOf t b) h := by
    funext k
    refine Fin.ext ?_
    blk_simp [show win0_5.index (step t) = _ from index_out (step t)]
    match k with
    | ⟨0, _⟩ => show 0 * 50 + l.val = l.val; omega
    | ⟨1, _⟩ => rfl
    | ⟨2, _⟩ => show 0 * 768 + h.val = h.val; omega
  rw [← place]
  refine e.trans ?_
  show (dats m 0 c).after 5 (step t) (ix3 l b h) = _
  rw [after_out, stored_whole]

/-- The result at a sequence, a position and a feature is the region's output array with the first two exchanged. -/
theorem final_at (n : Fin 1024) (l : Fin 50) (h : Fin 768) :
    final m c main_v0 (ix3 n l h) = (dats m 0 c).arrAt 5 cfg0.N (ix3 l n h) := by
  have whole : final m c main_v0
      = transpose S1024x50x768 [1, 0, 2] ((dats m 0 c).arrAt 5 cfg0.N) transposes_S50x1024x768_S1024x50x768_1_0_2 := by
    unfold final Pipeline.afterTail₀
    show StableHlo.after hostOps1 _ _ = _
    unfold_abbrev_sides
    after_results
    exact congrArg (fun x => transpose S1024x50x768 [1, 0, 2] x transposes_S50x1024x768_S1024x50x768_1_0_2)
      (Pipeline.withArrays_arr spec0 launch0.win.arr_inj c (entry m c) (fun w => (dats m 0 c).arrAt w cfg0.N) 5)
  rw [whole]
  pointwise

/-- The sum of the rows the four tables are read at. -/
abbrev rowSum (tokT : FVec Ideal S30x768 .f32) (chgT decT : FVec Ideal S10x768 .f32) (posT : FVec Ideal S512x768 .f32)
    (a : Fin 30) (d e : Fin 10) (l : Fin 50) (k : Fin 768) : EReal :=
  tokT (ix2 a k) + decT (ix2 (site d) k) + chgT (ix2 e k) + posT (ix2 ⟨l.val, by omega⟩ k)

/-- The sum of the means of those rows. -/
abbrev meanSum (tokT : FVec Ideal S30x768 .f32) (chgT decT : FVec Ideal S10x768 .f32) (posT : FVec Ideal S512x768 .f32)
    (a : Fin 30) (d e : Fin 10) (l : Fin 50) : EReal :=
  mean (fun k => tokT (ix2 a k)) + mean (fun k => decT (ix2 (site d) k)) + mean (fun k => chgT (ix2 e k))
    + mean (fun k => posT (ix2 ⟨l.val, by omega⟩ k))

/-- The result where the token, the decoration and the charge are the row numbers `a`, `d` and `e`: the normalisation, in the
moments' form, of the sum of the four rows, the mean being the sum of the rows' means. -/
theorem result_at (n : Fin 1024) (l : Fin 50) (h : Fin 768) (a : Fin 30) (d e : Fin 10)
    (tok : m ((c : Thread nD τ).loc main_arg0) (ix2 n l) = BitVec.ofNat 32 a.val)
    (dec : m ((c : Thread nD τ).loc main_arg1) (ix2 n l) = BitVec.ofNat 32 d.val)
    (chg : m ((c : Thread nD τ).loc main_arg2) (ix1 n) = BitVec.ofNat 32 e.val) :
    final m c main_v0 (ix3 n l h)
      = byMoments
          (rowSum (m ((c : Thread nD τ).loc main_arg3)) (m ((c : Thread nD τ).loc main_arg4)) (m ((c : Thread nD τ).loc main_arg5))
            (m ((c : Thread nD τ).loc main_arg6)) a d e l)
          (meanSum (m ((c : Thread nD τ).loc main_arg3)) (m ((c : Thread nD τ).loc main_arg4)) (m ((c : Thread nD τ).loc main_arg5))
            (m ((c : Thread nD τ).loc main_arg6)) a d e l)
          (m ((c : Thread nD τ).loc main_arg7) (ix1 h)) (m ((c : Thread nD τ).loc main_arg8) (ix1 h)) h := by
  obtain ⟨t, b, rfl⟩ : ∃ t b : Fin 32, n = seqOf t b :=
    ⟨⟨n.val / 32, by omega⟩, ⟨n.val % 32, by omega⟩, Fin.ext (by show n.val = n.val / 32 * 32 + n.val % 32; omega)⟩
  rw [final_at, array_at, stored_at _ _ _ _ _ l b h a d e (by rw [block_code, entry_codes, codes_at, tok, dec, chg]),
    block_table, block_means, block_scale, block_shift, entry_rows, entry_means, entry_scale, entry_shift]
  simp only [rows_tok, rows_dec, rows_chg, rows_pos, rowMeans_at, asRow_at]

end Cert.KernelIdeal.Hand
end
end
-- ==== Proof.Lookup.lean ====
module
public import Idealize.ShloMosaic.Lib.Pointwise

/-! # Looking rows of a table up

A reference's `jnp.take(table, index, axis=0)`: the index is wrapped round once from below, one row of `table` is gathered per
index, and where the wrapped index lies outside the table the row is replaced by a filler. Here the gathered row is named at a
result index, and then the whole lookup at an index that lies inside the table, for a list of indices and for a grid of them.
Nothing here depends on the table's number of rows, on its width or on the number of indices. -/

@[expose] public section

set_option maxRecDepth 16384

noncomputable section

namespace Cert.Lookup

open Idealize.ShloMosaic

variable {α : Type} {N W A B : ℕ}

/-- One row of an `N`-row table per entry of a list of `A` indices: the gather's dimension numbers. -/
abbrev listDims (N W A : ℕ) (wf : GatherDims.WF ⟨2, ![N, W]⟩ ⟨2, ![A, 1]⟩ ⟨2, ![A, W]⟩ [1] [0] [] [0] [] 1 ![1, W]) :
    GatherDims ⟨2, ![N, W]⟩ ⟨2, ![A, 1]⟩ ⟨2, ![A, W]⟩ where
  offsetDims := [1]
  collapsedSliceDims := [0]
  operandBatchingDims := []
  startIndicesBatchingDims := []
  startIndexMap := [0]
  indexVectorDim := 1
  sliceSizes := ![1, W]
  wf := wf

/-- One row of an `N`-row table per entry of an `A` by `B` grid of indices: the gather's dimension numbers. -/
abbrev gridDims (N W A B : ℕ)
    (wf : GatherDims.WF ⟨2, ![N, W]⟩ ⟨3, ![A, B, 1]⟩ ⟨3, ![A, B, W]⟩ [2] [0] [] [0] [] 2 ![1, W]) :
    GatherDims ⟨2, ![N, W]⟩ ⟨3, ![A, B, 1]⟩ ⟨3, ![A, B, W]⟩ where
  offsetDims := [2]
  collapsedSliceDims := [0]
  operandBatchingDims := []
  startIndicesBatchingDims := []
  startIndexMap := [0]
  indexVectorDim := 2
  sliceSizes := ![1, W]
  wf := wf

/-- A gather that takes its start index as a row number of a table and returns the whole row: at the result index `j`, whose
entry of the index array is `i` and whose column is `h`, it reads the table at the row `i` names. -/
theorem gather_row {si t : Shape} (d : GatherDims ⟨2, ![N, W]⟩ si t) (no_batch : d.operandBatchingDims = [])
    (one_row : d.collapsedSliceDims = [0]) (names_row : d.startIndexMap = [0]) (thin : d.sliceSizes 0 = 1)
    (table : (⟨2, ![N, W]⟩ : Shape).Idx → α) (idx : IVec si 32) (j : t.Idx) (i : si.Idx) (h : Fin W) (r : Fin N)
    (entry : ∀ k, d.siIdx j k = i) (column : d.offCoord j 1 = h.val) (hr : (idx i).toInt = r.val) :
    Host.gather d table idx j = table (ix2 r h) := by
  unfold Host.gather
  congr 1
  funext k
  refine Fin.ext ?_
  show d.start j idx k + d.batchCoord j k + d.offCoord j k = _
  rw [GatherDims.batchCoord_eq_zero _ _ _ (by rw [no_batch]; exact List.not_mem_nil), Nat.add_zero]
  revert k
  refine Fin.forall_fin_two.2 ⟨?_, ?_⟩
  · rw [GatherDims.offCoord_eq_zero _ _ _ (fun m => ((GatherDims.mem_sKept _ _).mp m).1
      (by rw [one_row]; exact List.mem_singleton.mpr rfl))]
    unfold GatherDims.start
    rw [dif_pos (by rw [names_row]; exact List.mem_singleton.mpr rfl), entry, hr, thin]
    show min (Int.toNat (r.val : ℤ)) (N - 1) + 0 = r.val
    have := r.isLt
    simp only [Int.toNat_natCast]
    omega
  · unfold GatherDims.start
    rw [dif_neg (by rw [names_row]; show (1 : Fin 2) ∉ [(0 : Fin 2)]; decide), Nat.zero_add]
    exact column

/-- Over a list, the gather reads the table at the row the index says, in the same column. -/
theorem gather_list (wf : GatherDims.WF ⟨2, ![N, W]⟩ ⟨2, ![A, 1]⟩ ⟨2, ![A, W]⟩ [1] [0] [] [0] [] 1 ![1, W])
    (table : (⟨2, ![N, W]⟩ : Shape).Idx → α) (idx : IVec ⟨2, ![A, 1]⟩ 32) (a : Fin A) (h : Fin W) (r : Fin N)
    (hr : (idx (ix2 a 0)).toInt = r.val) :
    Host.gather (listDims N W A wf) table idx (ix2 a h) = table (ix2 r h) := by
  refine gather_row _ rfl rfl rfl rfl table idx _ (ix2 a 0) h r (fun k => ?_) rfl hr
  obtain rfl : k = ⟨0, Nat.one_pos⟩ := Subsingleton.elim (α := Fin 1) _ _
  funext b
  exact Fin.ext (match b with | ⟨0, _⟩ => rfl | ⟨1, _⟩ => rfl)

/-- Over a grid, the gather reads the table at the row the index says, in the same column. -/
theorem gather_grid (wf : GatherDims.WF ⟨2, ![N, W]⟩ ⟨3, ![A, B, 1]⟩ ⟨3, ![A, B, W]⟩ [2] [0] [] [0] [] 2 ![1, W])
    (table : (⟨2, ![N, W]⟩ : Shape).Idx → α) (idx : IVec ⟨3, ![A, B, 1]⟩ 32) (a : Fin A) (b : Fin B) (h : Fin W) (r : Fin N)
    (hr : (idx (ix3 a b 0)).toInt = r.val) :
    Host.gather (gridDims N W A B wf) table idx (ix3 a b h) = table (ix2 r h) := by
  refine gather_row _ rfl rfl rfl rfl table idx _ (ix3 a b 0) h r (fun k => ?_) rfl hr
  obtain rfl : k = ⟨0, Nat.one_pos⟩ := Subsingleton.elim (α := Fin 1) _ _
  funext i
  exact Fin.ext (match i with | ⟨0, _⟩ => rfl | ⟨1, _⟩ => rfl | ⟨2, _⟩ => rfl)

/-- An index wrapped round once from below: `size` is added to it where it is negative. -/
abbrev wrapped (s : Shape) (h : (⟨0, ![]⟩ : Shape).BroadcastsInDim s (![] : Fin 0 → Fin s.rank)) (size : BitVec 32)
    (idx : IVec s 32) : IVec s 32 :=
  select (cmpi .slt idx (broadcastInDim s ![] h (constantI ⟨0, ![]⟩ 32 0#32)))
    (addi idx (broadcastInDim s ![] h (constantI ⟨0, ![]⟩ 32 size))) idx

/-- A word that is a row number below `N`: it isn't negative, it is at least zero and at most the last row's number, each as the
comparison's bit. -/
theorem word_facts {w last : BitVec 32} (r : Fin N) (hw : w.toInt = r.val) (hlast : last.toInt = (N : ℤ) - 1) :
    IntOp.cmpi .slt w 0#32 = 0#1 ∧ IntOp.cmpi .sge w 0#32 = 1#1 ∧ IntOp.cmpi .sle w last = 1#1 := by
  have := r.isLt
  have z : (0#32).toInt = 0 := rfl
  refine ⟨?_, ?_, ?_⟩
  · rw [IntOp.cmpi, BitVec.slt, hw, z, decide_eq_false (by omega)]; rfl
  · rw [IntOp.cmpi, BitVec.sle, hw, z, decide_eq_true (by omega)]; rfl
  · rw [IntOp.cmpi, BitVec.sle, hw, hlast, decide_eq_true (by omega)]; rfl

/-- Where the index is a row number of the table, wrapping leaves it alone. -/
theorem wrapped_at (s : Shape) (h : (⟨0, ![]⟩ : Shape).BroadcastsInDim s (![] : Fin 0 → Fin s.rank)) (size : BitVec 32)
    (idx : IVec s 32) (j : s.Idx) (hj : IntOp.cmpi .slt (idx j) 0#32 = 0#1) : wrapped s h size idx j = idx j := by
  show Scalar.select (IntOp.cmpi .slt (idx j) 0#32) _ (idx j) = idx j
  rw [hj]
  rfl

/-- The conjunction of bits that are all one is one. -/
theorem all_ones {s t : Shape} {axes : List (Fin s.rank)} (x : IVec s 1) (one : IVec ⟨0, ![]⟩ 1) (h : s.ReducesTo axes t)
    (hu : 0 < (⟨0, ![]⟩ : Shape).numel) (hone : ∀ i, one i = 1#1) (hx : ∀ i, x i = 1#1) (j : t.Idx) :
    Host.reduce IntOp.andi x one h hu j = 1#1 := by
  obtain rfl : x = fun _ => 1#1 := funext hx
  rw [Host.reduce_eq_fold, hone]
  induction (Finset.univ.filter fun i => h.drop i = j) using Finset.induction with
  | empty => rfl
  | insert a s ha ih => rw [Finset.fold_insert ha, ih]; rfl

/-- Where every index is a row number, the filler is nowhere used: the lookup gives the rows gathered. -/
theorem rows_kept {s1 s t : Shape} {axes : List (Fin s1.rank)} {dims : Fin s.rank → Fin t.rank} (idx zero top : IVec s1 32)
    (one : IVec ⟨0, ![]⟩ 1) (h : s1.ReducesTo axes s) (hu : 0 < (⟨0, ![]⟩ : Shape).numel) (hb : s.BroadcastsInDim t dims)
    (rows filler : t.Idx → α) (hone : ∀ i, one i = 1#1) (lower : ∀ i, IntOp.cmpi .sge (idx i) (zero i) = 1#1)
    (upper : ∀ i, IntOp.cmpi .sle (idx i) (top i) = 1#1) :
    select (broadcastInDim t dims hb (Host.reduce IntOp.andi (andi (cmpi .sge idx zero) (cmpi .sle idx top)) one h hu)) rows filler
      = rows := by
  funext j
  have bit : broadcastInDim t dims hb (Host.reduce IntOp.andi (andi (cmpi .sge idx zero) (cmpi .sle idx top)) one h hu) j = 1#1 :=
    all_ones _ _ h hu hone (fun i => by
      show IntOp.andi (IntOp.cmpi .sge (idx i) (zero i)) (IntOp.cmpi .sle (idx i) (top i)) = 1#1
      rw [lower i, upper i]; rfl) _
  show Scalar.select _ (rows j) (filler j) = rows j
  rw [bit]
  rfl

end Cert.Lookup
end
end
-- ==== Proof.Reference.lean ====
module
public import proofs.«01_k».proof.Proof.Gen.ReferenceIdeal.Run
public import proofs.«01_k».proof.Proof.Lookup
public import proofs.«01_k».proof.Proof.Arith

/-! # What the reference computes

The reference's composed term is cut at its lookups: the token's, the decoration's, the charge's and the position's rows, their
sum, and the sum's layer normalisation. Each is read at an index; where the arguments are row numbers of their tables the
lookups give the rows, and the result is the normalisation, in the centred form, of the sum of the four rows. -/

@[expose] public section

set_option maxRecDepth 16384

noncomputable section

namespace Cert.ReferenceIdeal.Hand

open Idealize.ShloMosaic Idealize.ShloMosaic.TcCoe Cert.ReferenceIdeal Cert.ReferenceIdeal.Gen Cert.Arith Cert.Lookup
open scoped BigOperators

/-! ## The lookups -/

/-- A grid of indices, wrapped, as start indices. -/
def gridStarts (size : BitVec 32) (idx : IVec S1024x50 32) : IVec S1024x50x1 32 :=
  broadcastInDim S1024x50x1 ![0, 1] bcast_S1024x50_S1024x50x1_0_1 (wrapped S1024x50 bcast_S_S1024x50 size idx)

/-- The rows gathered for a grid of start indices, with the filler where a start index is past `last` or below zero. -/
def gridRows (last : BitVec 32) (at0 : IVec S1024x50x1 32) (gathered : FVec Ideal S1024x50x768 .f32) :
    FVec Ideal S1024x50x768 .f32 :=
  select (broadcastInDim S1024x50x768 ![0, 1] bcast_S1024x50_S1024x50x768_0_1 (Host.reduce IntOp.andi
      (andi (cmpi .sge at0 (broadcastInDim S1024x50x1 ![] bcast_S_S1024x50x1 (constantI S_ 32 0#32)))
        (cmpi .sle at0 (broadcastInDim S1024x50x1 ![0, 1, 2] bcast_S1x1x1_S1024x50x1_0_1_2
          (broadcastInDim S1x1x1 ![2] bcast_S1_S1x1x1_2 (constantI S1 32 last)))))
      (constantI S_ 1 1#1) reducesTo_S1024x50x1_S1024x50_d2 h_S_))
    gathered (broadcastInDim S1024x50x768 ![] bcast_S_S1024x50x768 (constant S_ .f32 0x7FC00000#32))

section Lists

variable {N A : ℕ}
  (hs : S_.BroadcastsInDim (⟨1, ![A]⟩ : Shape) (![] : Fin 0 → Fin 1))
  (hc : (⟨1, ![A]⟩ : Shape).BroadcastsInDim ⟨2, ![A, 1]⟩ (![0] : Fin 1 → Fin 2))
  (hz : S_.BroadcastsInDim (⟨2, ![A, 1]⟩ : Shape) (![] : Fin 0 → Fin 2))
  (ht : S1x1.BroadcastsInDim (⟨2, ![A, 1]⟩ : Shape) (![0, 1] : Fin 2 → Fin 2))
  (hr : (⟨2, ![A, 1]⟩ : Shape).ReducesTo [1] ⟨1, ![A]⟩)
  (hm : (⟨1, ![A]⟩ : Shape).BroadcastsInDim ⟨2, ![A, 768]⟩ (![0] : Fin 1 → Fin 2))
  (hf : S_.BroadcastsInDim (⟨2, ![A, 768]⟩ : Shape) (![] : Fin 0 → Fin 2))

/-- A list of indices, wrapped, as start indices. -/
def listStarts (size : BitVec 32) (idx : IVec ⟨1, ![A]⟩ 32) : IVec ⟨2, ![A, 1]⟩ 32 :=
  broadcastInDim ⟨2, ![A, 1]⟩ ![0] hc (wrapped ⟨1, ![A]⟩ hs size idx)

/-- The rows gathered for a list of start indices, with the filler where a start index is past `last` or below zero. -/
def listRows (last : BitVec 32) (at0 : IVec ⟨2, ![A, 1]⟩ 32) (gathered : FVec Ideal ⟨2, ![A, 768]⟩ .f32) :
    FVec Ideal ⟨2, ![A, 768]⟩ .f32 :=
  select (broadcastInDim ⟨2, ![A, 768]⟩ ![0] hm (Host.reduce IntOp.andi
      (andi (cmpi .sge at0 (broadcastInDim ⟨2, ![A, 1]⟩ ![] hz (constantI S_ 32 0#32)))
        (cmpi .sle at0 (broadcastInDim ⟨2, ![A, 1]⟩ ![0, 1] ht (broadcastInDim S1x1 ![1] bcast_S1_S1x1_1 (constantI S1 32 last)))))
      (constantI S_ 1 1#1) hr h_S_))
    gathered (broadcastInDim ⟨2, ![A, 768]⟩ ![] hf (constant S_ .f32 0x7FC00000#32))

end Lists

/-- The charges as start indices. -/
abbrev chgStarts (idx : IVec S1024 32) : IVec S1024x1 32 := listStarts bcast_S_S1024 bcast_S1024_S1024x1_0 10#32 idx

/-- The charges' rows. -/
abbrev chgRows (table : FVec Ideal S10x768 .f32) (at0 : IVec S1024x1 32) : FVec Ideal S1024x768 .f32 :=
  listRows bcast_S_S1024x1 bcast_S1x1_S1024x1_0_1 reducesTo_S1024x1_S1024_d1 bcast_S1024_S1024x768_0 bcast_S_S1024x768 9#32 at0
    (Host.gather gather_S10x768_S1024x1_S1024x768_1_0_n_n_0_1_1768 table at0)

/-- The positions as start indices. -/
abbrev posStarts : IVec S50x1 32 := listStarts bcast_S_S50 bcast_S50_S50x1_0 512#32 (iotaInDim S50 32 0)

/-- The positions' rows. -/
abbrev posRows (table : FVec Ideal S512x768 .f32) : FVec Ideal S50x768 .f32 :=
  listRows bcast_S_S50x1 bcast_S1x1_S50x1_0_1 reducesTo_S50x1_S50_d1 bcast_S50_S50x768_0 bcast_S_S50x768 511#32 posStarts
    (Host.gather gather_S512x768_S50x1_S50x768_1_0_n_n_0_1_1768 table posStarts)

/-- The decorations with five sent to zero. -/
def foldedDec (dec : IVec S1024x50 32) : IVec S1024x50 32 :=
  subi dec (muli (broadcastInDim S1024x50 ![] bcast_S_S1024x50 (constantI S_ 32 5#32))
    (extui 32 (cmpi .eq dec (broadcastInDim S1024x50 ![] bcast_S_S1024x50 (constantI S_ 32 5#32))) natLt_1_32))

/-- The sum of the four lookups. -/
def embedded (tok dec : IVec S1024x50 32) (chg : IVec S1024 32) (tokT : FVec Ideal S30x768 .f32)
    (chgT decT : FVec Ideal S10x768 .f32) (posT : FVec Ideal S512x768 .f32) : FVec Ideal S1024x50x768 .f32 :=
  addf (addf (addf
      (gridRows 29#32 (gridStarts 30#32 tok)
        (Host.gather gather_S30x768_S1024x50x1_S1024x50x768_2_0_n_n_0_2_1768 tokT (gridStarts 30#32 tok)))
      (gridRows 9#32 (gridStarts 10#32 (foldedDec dec))
        (Host.gather gather_S10x768_S1024x50x1_S1024x50x768_2_0_n_n_0_2_1768 decT (gridStarts 10#32 (foldedDec dec)))))
      (broadcastInDim S1024x50x768 ![0, 1, 2] bcast_S1024x1x768_S1024x50x768_0_1_2
        (broadcastInDim S1024x1x768 ![0, 2] bcast_S1024x768_S1024x1x768_0_2 (chgRows chgT (chgStarts chg)))))
    (broadcastInDim S1024x50x768 ![0, 1, 2] bcast_S1x50x768_S1024x50x768_0_1_2
      (broadcastInDim S1x50x768 ![1, 2] bcast_S50x768_S1x50x768_1_2 (posRows posT)))

/-! ## The lookups at row numbers -/

section Rows

variable {N : ℕ} (hN : N ≤ 512)

include hN

/-- A row number's word, read as a signed number, is the row number. -/
theorem toInt_row (r : Fin N) : (BitVec.ofNat 32 r.val).toInt = r.val := by
  have := r.isLt
  rw [BitVec.toInt_eq_toNat_cond, BitVec.toNat_ofNat]
  split <;> omega

/-- Wrapped, a row number stays. -/
theorem wrapped_row (s : Shape) (h : S_.BroadcastsInDim s (![] : Fin 0 → Fin s.rank)) (size last : BitVec 32)
    (hlast : last.toInt = (N : ℤ) - 1) (idx : IVec s 32) (j : s.Idx) (r : Fin N) (hr : idx j = BitVec.ofNat 32 r.val) :
    wrapped s h size idx j = BitVec.ofNat 32 r.val := by
  rw [wrapped_at _ _ _ _ _ (by rw [hr]; exact (word_facts r (toInt_row hN r) hlast).1), hr]

/-- Looked up at a grid of row numbers, a table gives its rows. -/
theorem grid_lookup
    (wf : GatherDims.WF ⟨2, ![N, 768]⟩ ⟨3, ![1024, 50, 1]⟩ ⟨3, ![1024, 50, 768]⟩ [2] [0] [] [0] [] 2 ![1, 768])
    (size last : BitVec 32) (hlast : last.toInt = (N : ℤ) - 1) (table : FVec Ideal ⟨2, ![N, 768]⟩ .f32) (idx : IVec S1024x50 32)
    (row : Fin 1024 → Fin 50 → Fin N) (hrow : ∀ n l, idx (ix2 n l) = BitVec.ofNat 32 (row n l).val)
    (n : Fin 1024) (l : Fin 50) (h : Fin 768) :
    gridRows last (gridStarts size idx) (Host.gather (gridDims N 768 1024 50 wf) table (gridStarts size idx)) (ix3 n l h)
      = table (ix2 (row n l) h) := by
  have at_all : ∀ i : S1024x50x1.Idx, gridStarts size idx i = BitVec.ofNat 32 (row (i 0) (i 1)).val := fun i => by
    have e : gridStarts size idx i = wrapped S1024x50 bcast_S_S1024x50 size idx (ix2 (i 0) (i 1)) := by
      unfold gridStarts
      generalize wrapped S1024x50 bcast_S_S1024x50 size idx = w
      pointwise
    rw [e, wrapped_row hN _ _ _ _ hlast _ _ _ (hrow (i 0) (i 1))]
  unfold gridRows
  rw [rows_kept _ _ _ (constantI S_ 1 1#1) _ _ _ _ _ (fun _ => rfl)
    (fun i => by rw [at_all]; exact (word_facts _ (toInt_row hN _) hlast).2.1)
    (fun i => by rw [at_all]; exact (word_facts _ (toInt_row hN _) hlast).2.2)]
  exact gather_grid wf table _ n l h (row n l) (by rw [at_all]; exact toInt_row hN _)

/-- Looked up at a list of row numbers, a table gives its rows. -/
theorem list_lookup {A : ℕ} (hs) (hc) (hz) (ht) (hr) (hm) (hf)
    (wf : GatherDims.WF ⟨2, ![N, 768]⟩ ⟨2, ![A, 1]⟩ ⟨2, ![A, 768]⟩ [1] [0] [] [0] [] 1 ![1, 768])
    (size last : BitVec 32) (hlast : last.toInt = (N : ℤ) - 1) (table : FVec Ideal ⟨2, ![N, 768]⟩ .f32)
    (idx : IVec ⟨1, ![A]⟩ 32) (row : Fin A → Fin N) (hrow : ∀ n, idx (ix1 n) = BitVec.ofNat 32 (row n).val)
    (n : Fin A) (h : Fin 768) :
    listRows hz ht hr hm hf last (listStarts hs hc size idx) (Host.gather (listDims N 768 A wf) table (listStarts hs hc size idx))
      (ix2 n h) = table (ix2 (row n) h) := by
  have at_all : ∀ i : (⟨2, ![A, 1]⟩ : Shape).Idx, listStarts hs hc size idx i = BitVec.ofNat 32 (row (i 0)).val := fun i => by
    have e : listStarts hs hc size idx i = wrapped ⟨1, ![A]⟩ hs size idx (ix1 (i 0)) := by
      unfold listStarts
      generalize wrapped ⟨1, ![A]⟩ hs size idx = w
      refine broadcastInDim_apply _ hc w i (ix1 (i 0)) fun k => ?_
      obtain rfl : k = 0 := Subsingleton.elim (α := Fin 1) _ _
      show (i 0).val = if A = 1 then 0 else (i 0).val
      have := (show Fin A from i 0).isLt
      split
      · have : (show Fin A from i 0).val = (i 0).val := rfl
        omega
      · rfl
    rw [e, wrapped_row hN _ _ _ _ hlast _ _ _ (hrow (i 0))]
  unfold listRows
  rw [rows_kept _ _ _ (constantI S_ 1 1#1) _ _ _ _ _ (fun _ => rfl)
    (fun i => by rw [at_all]; exact (word_facts _ (toInt_row hN _) hlast).2.1)
    (fun i => by rw [at_all]; exact (word_facts _ (toInt_row hN _) hlast).2.2)]
  exact gather_list wf table _ n h (row n) (by rw [at_all]; exact toInt_row hN _)

end Rows

/-- Where every argument is a row number, the sum of the lookups is the sum of the rows. -/
theorem embedded_at (tok dec : IVec S1024x50 32) (chg : IVec S1024 32) (tokT : FVec Ideal S30x768 .f32)
    (chgT decT : FVec Ideal S10x768 .f32) (posT : FVec Ideal S512x768 .f32) (a : Fin 1024 → Fin 50 → Fin 30)
    (d : Fin 1024 → Fin 50 → Fin 10) (e : Fin 1024 → Fin 10) (ha : ∀ n l, tok (ix2 n l) = BitVec.ofNat 32 (a n l).val)
    (hd : ∀ n l, dec (ix2 n l) = BitVec.ofNat 32 (d n l).val) (he : ∀ n, chg (ix1 n) = BitVec.ofNat 32 (e n).val)
    (n : Fin 1024) (l : Fin 50) (h : Fin 768) :
    embedded tok dec chg tokT chgT decT posT (ix3 n l h)
      = tokT (ix2 (a n l) h) + decT (ix2 (site (d n l)) h) + chgT (ix2 (e n) h) + posT (ix2 ⟨l.val, by omega⟩ h) := by
  have hf : ∀ n l, foldedDec dec (ix2 n l) = BitVec.ofNat 32 (site (d n l)).val := fun n l => by
    rw [← folded_eq, ← hd n l]; rfl
  rw [← grid_lookup (by norm_num) gather_S30x768_S1024x50x1_S1024x50x768_2_0_n_n_0_2_1768_wf 30#32 29#32 (by decide) tokT tok a ha,
    ← grid_lookup (by norm_num) gather_S10x768_S1024x50x1_S1024x50x768_2_0_n_n_0_2_1768_wf 10#32 9#32 (by decide) decT _ _ hf,
    ← list_lookup (by norm_num) bcast_S_S1024 bcast_S1024_S1024x1_0 bcast_S_S1024x1 bcast_S1x1_S1024x1_0_1
      reducesTo_S1024x1_S1024_d1 bcast_S1024_S1024x768_0 bcast_S_S1024x768
      gather_S10x768_S1024x1_S1024x768_1_0_n_n_0_1_1768_wf 10#32 9#32 (by decide) chgT chg e he,
    ← list_lookup le_rfl bcast_S_S50 bcast_S50_S50x1_0 bcast_S_S50x1 bcast_S1x1_S50x1_0_1
      reducesTo_S50x1_S50_d1 bcast_S50_S50x768_0 bcast_S_S50x768
      gather_S512x768_S50x1_S50x768_1_0_n_n_0_1_1768_wf 512#32 511#32 (by decide) posT (iotaInDim S50 32 0)
      (fun l => ⟨l.val, by omega⟩) (fun _ => rfl) l]
  unfold embedded
  pointwise
  rfl

/-! ## The normalisation -/

/-- The means over the features. -/
def featureMeans (x : FVec Ideal S1024x50x768 .f32) : FVec Ideal S1024x50x1 .f32 :=
  Host.divf (broadcastInDim S1024x50x1 ![0, 1] bcast_S1024x50_S1024x50x1_0_1
      (Host.reduceAdd x (constant S_ .f32 0x00000000#32) reducesTo_S1024x50x768_S1024x50_d2 h_S_))
    (broadcastInDim S1024x50x1 ![] bcast_S_S1024x50x1 (constant S_ .f32 0x44400000#32))

/-- The deviations from the means. -/
def deviations (x : FVec Ideal S1024x50x768 .f32) : FVec Ideal S1024x50x768 .f32 :=
  subf x (broadcastInDim S1024x50x768 ![0, 1, 2] bcast_S1024x50x1_S1024x50x768_0_1_2 (featureMeans x))

/-- The layer normalisation over the features. -/
def normalised (x : FVec Ideal S1024x50x768 .f32) (scale shift : FVec Ideal S768 .f32) : FVec Ideal S1024x50x768 .f32 :=
  addf (mulf (Host.divf (deviations x) (broadcastInDim S1024x50x768 ![0, 1, 2] bcast_S1024x50x1_S1024x50x768_0_1_2
      (Host.sqrt (addf (featureMeans (mulf (deviations x) (deviations x)))
        (broadcastInDim S1024x50x1 ![] bcast_S_S1024x50x1 (constant S_ .f32 0x2B8CBCCC#32))))))
    (broadcastInDim S1024x50x768 ![0, 1, 2] bcast_S1x1x768_S1024x50x768_0_1_2
      (broadcastInDim S1x1x768 ![2] bcast_S768_S1x1x768_2 scale)))
    (broadcastInDim S1024x50x768 ![0, 1, 2] bcast_S1x1x768_S1024x50x768_0_1_2
      (broadcastInDim S1x1x768 ![2] bcast_S768_S1x1x768_2 shift))

/-- At an index the normalisation is the centred form over that row. -/
theorem normalised_at (x : FVec Ideal S1024x50x768 .f32) (scale shift : FVec Ideal S768 .f32) (n : Fin 1024) (l : Fin 50)
    (h : Fin 768) :
    normalised x scale shift (ix3 n l h) = centred (fun k => x (ix3 n l k)) (scale (ix1 h)) (shift (ix1 h)) h := by
  pointwise [normalised, deviations, featureMeans]

/-! ## The reference's result -/

variable (m : (ℓ : Loc nD τ sig) → Buf (Elt Ideal) ℓ) (c : Dev nD)

set_option maxHeartbeats 4000000 in
/-- The reference's composed term is the normalisation of the sum of the lookups. -/
theorem result_eq : Value.res_main_v41 m c
    = normalised (embedded (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)))
      (m ((c : Thread nD τ).loc main_arg7)) (m ((c : Thread nD τ).loc main_arg8)) := by
  unfold Value.res_main_v41
  rfl

end Cert.ReferenceIdeal.Hand
end
end
-- ==== Proof.Precondition.lean ====
module
public import proofs.«01_k».proof.Proof.Gen.Pre_rows_exist_tables_finite
public import Idealize.ShloMosaic.Lib.Affine
public import Idealize.ShloMosaic.Lib.Pointwise

/-! # What the precondition says

Where the masks are all true, every token, decoration and charge is a row number of its table, and every entry that a lookup
can reach is a real number. -/

@[expose] public section

set_option maxRecDepth 16384

noncomputable section

namespace Cert.Pre_rows_exist_tables_finite.Hand

open Idealize.ShloMosaic Cert.Pre_rows_exist_tables_finite Cert.Pre_rows_exist_tables_finite.Gen

/-- A word from 0 up to `N`, as signed numbers, is a row number's word. -/
theorem row_of_mask {N : ℕ} {w top : BitVec 32} (htop : top.toInt = N)
    (h : IntOp.andi (IntOp.cmpi .sge w 0#32) (IntOp.cmpi .slt w top) = 1#1) : ∃ r : Fin N, w = BitVec.ofNat 32 r.val := by
  obtain ⟨h0, h1⟩ := IntOp.andi_eq_one.mp h
  have h0 := IntOp.cmpi_sge.mp h0
  have h1 := IntOp.cmpi_slt.mp h1
  rw [htop] at h1
  have hz : (0#32 : BitVec 32).toInt = 0 := rfl
  rw [hz] at h0
  have e : w.toInt = w.toNat := by
    have := BitVec.toInt_eq_toNat_cond w
    have := w.isLt
    split at * <;> omega
  exact ⟨⟨w.toNat, by omega⟩, BitVec.eq_of_toNat_eq (by simp)⟩

/-- A value whose magnitude is below infinity is a real number. -/
theorem real_of_mask {x : Ideal .f32}
    (h : FloatOps.cmpf .olt (FloatOps.hostAbsf x) (FloatOps.ofBits (F := Ideal) .f32 0x7F800000#32) = 1#1) :
    ∃ r : ℝ, (x : EReal) = r := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have lt : max (x : EReal) (-(x : EReal)) < ⊤ := by
    by_contra hn
    simp [Ideal.cmp, hn] at h'
  obtain ⟨hx, hneg⟩ := max_lt_iff.mp lt
  exact ⟨EReal.toReal x, (EReal.coe_toReal hx.ne fun hb => by simp [hb] at hneg).symm⟩

/-! ## The arguments' rows and entries -/

variable (tok dec : IVec S1024x50 32) (chg : IVec S1024 32) (tokT : FVec Ideal S30x768 .f32)
  (chgT decT : FVec Ideal S10x768 .f32) (posT : FVec Ideal S512x768 .f32)

/-- Row numbers for the integer arguments and real numbers for the entries that lookups reach. -/
structure Rows where
  /-- The tokens' rows. -/
  a : Fin 1024 → Fin 50 → Fin 30
  /-- The decorations' rows. -/
  d : Fin 1024 → Fin 50 → Fin 10
  /-- The charges' rows. -/
  e : Fin 1024 → Fin 10
  /-- The token table's entries. -/
  tokR : Fin 30 → Fin 768 → ℝ
  /-- The decoration table's entries. -/
  decR : Fin 10 → Fin 768 → ℝ
  /-- The charge table's entries. -/
  chgR : Fin 10 → Fin 768 → ℝ
  /-- The entries of the position table's first fifty rows. -/
  posR : Fin 50 → Fin 768 → ℝ
  tok_eq : ∀ n l, tok (ix2 n l) = BitVec.ofNat 32 (a n l).val
  dec_eq : ∀ n l, dec (ix2 n l) = BitVec.ofNat 32 (d n l).val
  chg_eq : ∀ n, chg (ix1 n) = BitVec.ofNat 32 (e n).val
  tokT_eq : ∀ r k, tokT (ix2 r k) = ((tokR r k : ℝ) : EReal)
  decT_eq : ∀ r k, decT (ix2 r k) = ((decR r k : ℝ) : EReal)
  chgT_eq : ∀ r k, chgT (ix2 r k) = ((chgR r k : ℝ) : EReal)
  posT_eq : ∀ (l : Fin 50) k, posT (ix2 ⟨l.val, by omega⟩ k) = ((posR l k : ℝ) : EReal)

/-- The precondition gives such rows and entries. -/
theorem rows_of_masks (scale shift : FVec Ideal S768 .f32)
    (h : (fn (F := Ideal) tok dec chg tokT chgT decT posT scale shift).1 = (fun _ => 1#1)
      ∧ (fn (F := Ideal) tok dec chg tokT chgT decT posT scale shift).2.1 = (fun _ => 1#1)
      ∧ (fn (F := Ideal) tok dec chg tokT chgT decT posT scale shift).2.2.1 = (fun _ => 1#1)
      ∧ (fn (F := Ideal) tok dec chg tokT chgT decT posT scale shift).2.2.2.1 = (fun _ => 1#1)
      ∧ (fn (F := Ideal) tok dec chg tokT chgT decT posT scale shift).2.2.2.2.1 = (fun _ => 1#1)
      ∧ (fn (F := Ideal) tok dec chg tokT chgT decT posT scale shift).2.2.2.2.2.1 = (fun _ => 1#1)
      ∧ (fn (F := Ideal) tok dec chg tokT chgT decT posT scale shift).2.2.2.2.2.2 = (fun _ => 1#1)) :
    Nonempty (Rows tok dec chg tokT chgT decT posT) := by
  obtain ⟨h0, h1, h2, h3, h4, h5, h6⟩ := h
  choose a ha using fun n l => row_of_mask (N := 30) (w := tok (ix2 n l)) (top := 30#32) (by decide) (congrFun h0 (ix2 n l))
  choose d hd using fun n l => row_of_mask (N := 10) (w := dec (ix2 n l)) (top := 10#32) (by decide) (congrFun h1 (ix2 n l))
  choose e he using fun n => row_of_mask (N := 10) (w := chg (ix1 n)) (top := 10#32) (by decide) (congrFun h2 (ix1 n))
  choose t ht using fun r k => real_of_mask (x := tokT (ix2 r k)) (congrFun h3 (ix2 r k))
  choose q hq using fun r k => real_of_mask (x := chgT (ix2 r k)) (congrFun h4 (ix2 r k))
  choose p hp using fun r k => real_of_mask (x := decT (ix2 r k)) (congrFun h5 (ix2 r k))
  have sliced : ∀ (l : Fin 50) (k : Fin 768),
      extractStridedSlice S50x768 ![0, 0] posT slices_S512x768_S50x768_0_0 (ix2 l k) = posT (ix2 ⟨l.val, by omega⟩ k) :=
    fun l k => by pointwise
  choose o ho using fun (l : Fin 50) k => real_of_mask (congrFun h6 (ix2 l k))
  exact ⟨⟨a, d, e, t, p, q, o, ha, hd, he, ht, hp, hq, fun l k => (sliced l k).symm.trans (ho l k)⟩⟩

end Cert.Pre_rows_exist_tables_finite.Hand
end
end
-- ==== Proof.Equation.lean ====
module
public import proofs.«01_k».proof.Proof.Array
public import proofs.«01_k».proof.Proof.Reference
public import proofs.«01_k».proof.Proof.Precondition

/-! # The kernel's array is the reference's

The mean of a sum of four real rows is the sum of their means, and on real rows the moments' form of the variance is the
centred one. So where the arguments are row numbers and the rows are real, the two results agree at every index. -/

@[expose] public section

set_option maxRecDepth 16384

noncomputable section

namespace Cert.Equation

open Idealize.ShloMosaic Idealize.ShloMosaic.TcCoe Cert.Arith
open Cert.Pre_rows_exist_tables_finite.Hand (Rows)
open scoped BigOperators

/-- The mean of a real row is the real mean. -/
theorem mean_coe (x : Fin 768 → ℝ) : mean (fun k => (x k : EReal)) = (((∑ k, x k) / 768 : ℝ) : EReal) := by
  unfold mean
  rw [coe_sum, div_width]

/-- For four real rows, the form by moments with the sum of the rows' means is the centred form of the rows' sum. -/
theorem four_rows (t p q o : Fin 768 → ℝ) (scale shift : EReal) (h : Fin 768) :
    byMoments (fun k => (t k : EReal) + p k + q k + o k)
        (mean (fun k => (t k : EReal)) + mean (fun k => (p k : EReal)) + mean (fun k => (q k : EReal))
          + mean (fun k => (o k : EReal))) scale shift h
      = centred (fun k => (t k : EReal) + p k + q k + o k) scale shift h := by
  have rows : (fun k => (t k : EReal) + p k + q k + o k) = fun k => ((t k + p k + q k + o k : ℝ) : EReal) := by
    funext k
    simp only [EReal.coe_add]
  have means : mean (fun k => (t k : EReal)) + mean (fun k => (p k : EReal)) + mean (fun k => (q k : EReal))
      + mean (fun k => (o k : EReal)) = (((∑ k, (t k + p k + q k + o k)) / 768 : ℝ) : EReal) := by
    simp only [mean_coe, ← EReal.coe_add, Finset.sum_add_distrib, add_div]
  rw [rows, means, moments_eq_centred]

variable (m : (ℓ : Loc Cert.KernelIdeal.nD Cert.KernelIdeal.τ Cert.KernelIdeal.sig) → Buf (Elt Ideal) ℓ)
  (c : Dev Cert.KernelIdeal.nD)

open Cert.KernelIdeal in
/-- With rows for the arguments, the kernel's array is the normalisation of the sum of the reference's lookups. -/
theorem result_eq
    (R : Rows (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6))) :
    Cert.KernelIdeal.Hand.final m c main_v0
      = Cert.ReferenceIdeal.Hand.normalised (Cert.ReferenceIdeal.Hand.embedded (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)))
        (m ((c : Thread nD τ).loc main_arg7)) (m ((c : Thread nD τ).loc main_arg8)) := by
  funext j
  obtain ⟨n, l, h, rfl⟩ : ∃ (n : Fin 1024) (l : Fin 50) (h : Fin 768), j = ix3 n l h := ⟨_, _, _, ValueIdx.eq_ix3 j⟩
  rw [Cert.KernelIdeal.Hand.result_at m c n l h (R.a n l) (R.d n l) (R.e n) (R.tok_eq n l) (R.dec_eq n l) (R.chg_eq n),
    Cert.ReferenceIdeal.Hand.normalised_at]
  simp only [Cert.ReferenceIdeal.Hand.embedded_at _ _ _ _ _ _ _ R.a R.d R.e R.tok_eq R.dec_eq R.chg_eq]
  unfold Cert.KernelIdeal.Hand.rowSum Cert.KernelIdeal.Hand.meanSum
  simp only [R.tokT_eq, R.decT_eq, R.chgT_eq, R.posT_eq]
  exact four_rows (R.tokR (R.a n l)) (R.decR (site (R.d n l))) (R.chgR (R.e n)) (R.posR l) _ _ h

end Cert.Equation
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_rows_exist_tables_finite
public import proofs.«01_k».proof.Proof.KernelFrame
public import proofs.«01_k».proof.Proof.IdealFrame
public import proofs.«01_k».proof.Proof.Equation
public import Idealize.ShloMosaic.Adequacy
public import Idealize.ShloMosaic.Init

@[expose] public section

set_option maxRecDepth 16384

noncomputable section

namespace Cert.Proof

open Idealize.ShloMosaic Idealize.SL.Sem

/-- The kernel as printed terminates, leaves its arguments unchanged and every counter at zero. -/
theorem frame_kernel : Cert.quiescent_Kernel (hKernel := Cert.Kernel.Gen.facts) := fun m g _ =>
  (θ_run Cert.Kernel.defs _ _).mono (fun _ h => ⟨fun c => by
    refine ⟨?_, ?_, ?_, ?_, ?_, ?_, ?_, ?_, ?_⟩ <;>
      exact (h.1 c).2 _ (by simp only [Cert.Kernel.Hand.argRefs, List.mem_cons, true_or, or_true]), h.2⟩)
    (Cert.Kernel.Hand.run_buffers (F := Bits) m g)

/-- So does the kernel over the extended reals. -/
theorem frame_kernel_ideal : Cert.quiescent_KernelIdeal (hKernelIdeal := Cert.KernelIdeal.Gen.facts) := fun m g _ =>
  (θ_run Cert.KernelIdeal.defs _ _).mono (fun _ h => ⟨fun c => by
    refine ⟨?_, ?_, ?_, ?_, ?_, ?_, ?_, ?_, ?_⟩ <;>
      exact (h.1 c).2 _ (by simp only [Cert.KernelIdeal.Hand.argRefs, List.mem_cons, true_or, or_true]), h.2⟩)
    (Cert.KernelIdeal.Hand.run_buffers (F := Ideal) m g)

/-- So does the reference, which has no counters at all. -/
theorem frame_reference : Cert.quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩)
    (Cert.ReferenceIdeal.Value.run (F := Ideal) m g)

/-- Under the precondition the kernel and the reference, over the extended reals, end with equal results. -/
theorem value : Cert.algebraic_KernelIdeal_ReferenceIdeal_pre_rows_exist_tables_finite (hKernelIdeal := Cert.KernelIdeal.Gen.facts)
    (hReferenceIdeal := Cert.ReferenceIdeal.Gen.facts)
    (hPre_rows_exist_tables_finite := Cert.Pre_rows_exist_tables_finite.Gen.facts) := fun m g m' g' pre same => by
  refine ⟨fun c => Cert.KernelIdeal.Hand.final m c Cert.KernelIdeal.main_v0,
    (θ_run Cert.KernelIdeal.defs _ _).mono (fun _ h c => ⟨(h.1 c).1, by
      refine ⟨?_, ?_, ?_, ?_, ?_, ?_, ?_, ?_, ?_⟩ <;>
        exact (h.1 c).2 _ (by simp only [Cert.KernelIdeal.Hand.argRefs, List.mem_cons, true_or, or_true])⟩)
      (Cert.KernelIdeal.Hand.run_buffers (F := Ideal) m g),
    (θ_run Cert.ReferenceIdeal.defs _ _).mono (fun _ h c => ⟨(h c).1.trans ?_, (h c).2⟩)
      (Cert.ReferenceIdeal.Value.run (F := Ideal) m' g')⟩
  obtain ⟨R⟩ := Cert.Pre_rows_exist_tables_finite.Hand.rows_of_masks _ _ _ _ _ _ _ _ _ (pre c)
  obtain ⟨e0, e1, e2, e3, e4, e5, e6, e7, e8⟩ := same c
  rw [Cert.ReferenceIdeal.Hand.result_eq]
  refine Eq.trans ?_ (Cert.Equation.result_eq m c R).symm
  rw [e0, e1, e2, e3, e4, e5, e6, e7, e8]

/-- Every claim of the certificate. -/
theorem claim : Cert.Claim :=
  ⟨Cert.Kernel.Gen.facts, Cert.KernelIdeal.Gen.facts, Cert.ReferenceIdeal.Gen.facts,
    Cert.Pre_rows_exist_tables_finite.Gen.facts,
    frame_kernel, frame_kernel_ideal, fun m g _ => frame_kernel_ideal m g trivial,
    frame_reference, fun m g _ => frame_reference m g trivial, trivial, value⟩

end Cert.Proof

end
